-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_no_bias [hPre_finite_no_bias : Cert.Pre_finite_no_bias.Facts] (m : (ℓ : Loc Cert.KernelIdeal.nD Cert.KernelIdeal.τ Cert.KernelIdeal.sig) → Buf (Elt Ideal) ℓ) : Prop :=
  ∀ c : Dev Cert.KernelIdeal.nD,
    (Cert.Pre_finite_no_bias.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite_no_bias.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite_no_bias.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite_no_bias.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite_no_bias.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite_no_bias.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_no_bias [hPre_finite_no_bias : Cert.Pre_finite_no_bias.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_no_bias.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite_no_bias.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite_no_bias.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite_no_bias.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite_no_bias.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite_no_bias.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_no_bias [hKernelIdeal : Cert.KernelIdeal.Facts] [hPre_finite_no_bias : Cert.Pre_finite_no_bias.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_no_bias m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_no_bias [hReferenceIdeal : Cert.ReferenceIdeal.Facts] [hPre_finite_no_bias : Cert.Pre_finite_no_bias.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_no_bias m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "scale_log2e" .f32 0x3E38AA3B#32 (((1 / 8) * (Real.log 2)⁻¹ : ℝ) : EReal)

def algebraic_KernelIdeal_ReferenceIdeal_pre_finite_no_bias [hKernelIdeal : Cert.KernelIdeal.Facts] [hReferenceIdeal : Cert.ReferenceIdeal.Facts] [hPre_finite_no_bias : Cert.Pre_finite_no_bias.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_no_bias m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v2_1)) (v1 : (c : Dev Cert.KernelIdeal.nD) → Buf (Elt Ideal) ((c.tc : Thread Cert.KernelIdeal.nD Cert.KernelIdeal.τ).loc Cert.KernelIdeal.main_v2_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_1) = v0 c
          ∧ r.2.mem ((c.tc : Thread Cert.KernelIdeal.nD Cert.KernelIdeal.τ).loc Cert.KernelIdeal.main_v2_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_no_bias : Cert.Pre_finite_no_bias.Facts),
    quiescent_Kernel (hKernel := hKernel)
    ∧ quiescent_KernelIdeal (hKernelIdeal := hKernelIdeal)
    ∧ quiescent_KernelIdeal_pre_finite_no_bias (hKernelIdeal := hKernelIdeal) (hPre_finite_no_bias := hPre_finite_no_bias)
    ∧ quiescent_ReferenceIdeal (hReferenceIdeal := hReferenceIdeal)
    ∧ quiescent_ReferenceIdeal_pre_finite_no_bias (hReferenceIdeal := hReferenceIdeal) (hPre_finite_no_bias := hPre_finite_no_bias)
    ∧ preserves_Kernel_KernelIdeal
    ∧ algebraic_KernelIdeal_ReferenceIdeal_pre_finite_no_bias (hKernelIdeal := hKernelIdeal) (hReferenceIdeal := hReferenceIdeal) (hPre_finite_no_bias := hPre_finite_no_bias)
-- ==== Pre_finite_no_bias.lean ====
abbrev S4x32x32x384 : Shape := ⟨4, ![4, 32, 32, 384]⟩
abbrev S4x6x1024x1024 : Shape := ⟨4, ![4, 6, 1024, 1024]⟩
abbrev S384x1152 : Shape := ⟨2, ![384, 1152]⟩
abbrev S1152 : Shape := ⟨1, ![1152]⟩
abbrev S384x384 : Shape := ⟨2, ![384, 384]⟩
abbrev S384 : Shape := ⟨1, ![384]⟩
abbrev S3x3x1x384 : Shape := ⟨4, ![3, 3, 1, 384]⟩
abbrev S_ : Shape := ⟨0, ![]⟩
abbrev S384x768 : Shape := ⟨2, ![384, 768]⟩

class Facts : Prop where
  bcast_S_S4x32x32x384 : S_.BroadcastsInDim S4x32x32x384 (![] : Fin 0 → Fin S4x32x32x384.rank)
  bcast_S_S4x6x1024x1024 : S_.BroadcastsInDim S4x6x1024x1024 (![] : Fin 0 → Fin S4x6x1024x1024.rank)
  slices_S384x1152_S384x768_0_0 : S384x1152.Slices ![0, 0] S384x768
  bcast_S_S384x768 : S_.BroadcastsInDim S384x768 (![] : Fin 0 → Fin S384x768.rank)
  bcast_S_S1152 : S_.BroadcastsInDim S1152 (![] : Fin 0 → Fin S1152.rank)
  bcast_S_S384 : S_.BroadcastsInDim S384 (![] : Fin 0 → Fin S384.rank)

variable [Facts]

def fn {F : FTy → Type} [FloatOps F] (main_arg0 : FVec F S4x32x32x384 .f32) (main_arg1 : FVec F S4x6x1024x1024 .f32) (main_arg2 : FVec F S384x1152 .f32) (main_arg3 : FVec F S1152 .f32) (main_arg4 : FVec F S384x384 .f32) (main_arg5 : FVec F S384 .f32) (main_arg6 : FVec F S3x3x1x384 .f32) (main_arg7 : FVec F S384 .f32) : IVec S4x32x32x384 1 × IVec S4x6x1024x1024 1 × IVec S384x768 1 × IVec S1152 1 × IVec S384 1 × IVec S384 1 :=
  let main_v0 : FVec F S4x32x32x384 .f32 := Host.absf main_arg0
  let main_cst : FVec F S_ .f32 := constant S_ .f32 0x7F800000#32
  let main_v1 : FVec F S4x32x32x384 .f32 := broadcastInDim S4x32x32x384 ![] bcast_S_S4x32x32x384 main_cst
  let main_v2 : IVec S4x32x32x384 1 := cmpf .olt main_v0 main_v1
  let main_v3 : FVec F S4x6x1024x1024 .f32 := Host.absf main_arg1
  let main_cst_0 : FVec F S_ .f32 := constant S_ .f32 0x7F800000#32
  let main_v4 : FVec F S4x6x1024x1024 .f32 := broadcastInDim S4x6x1024x1024 ![] bcast_S_S4x6x1024x1024 main_cst_0
  let main_v5 : IVec S4x6x1024x1024 1 := cmpf .olt main_v3 main_v4
  let main_v6 : FVec F S384x768 .f32 := (extractStridedSlice S384x768 ![0, 0] · slices_S384x1152_S384x768_0_0) main_arg2
  let main_v7 : FVec F S384x768 .f32 := Host.absf main_v6
  let main_cst_1 : FVec F S_ .f32 := constant S_ .f32 0x7F800000#32
  let main_v8 : FVec F S384x768 .f32 := broadcastInDim S384x768 ![] bcast_S_S384x768 main_cst_1
  let main_v9 : IVec S384x768 1 := cmpf .olt main_v7 main_v8
  let main_cst_2 : FVec F S_ .f32 := constant S_ .f32 0x00000000#32
  let main_v10 : FVec F S1152 .f32 := broadcastInDim S1152 ![] bcast_S_S1152 main_cst_2
  let main_v11 : IVec S1152 1 := cmpf .oeq main_arg3 main_v10
  let main_cst_3 : FVec F S_ .f32 := constant S_ .f32 0x00000000#32
  let main_v12 : FVec F S384 .f32 := broadcastInDim S384 ![] bcast_S_S384 main_cst_3
  let main_v13 : IVec S384 1 := cmpf .oeq main_arg5 main_v12
  let main_cst_4 : FVec F S_ .f32 := constant S_ .f32 0x00000000#32
  let main_v14 : FVec F S384 .f32 := broadcastInDim S384 ![] bcast_S_S384 main_cst_4
  let main_v15 : IVec S384 1 := cmpf .oeq main_arg7 main_v14
  (main_v2, main_v5, main_v9, main_v11, main_v13, main_v15)
-- ==== Kernel.lean ====
abbrev S4x32x32x384 : Shape := ⟨4, ![4, 32, 32, 384]⟩
abbrev S4x6x1024x1024 : Shape := ⟨4, ![4, 6, 1024, 1024]⟩
abbrev S384x1152 : Shape := ⟨2, ![384, 1152]⟩
abbrev S1152 : Shape := ⟨1, ![1152]⟩
abbrev S384x384 : Shape := ⟨2, ![384, 384]⟩
abbrev S384 : Shape := ⟨1, ![384]⟩
abbrev S3x3x1x384 : Shape := ⟨4, ![3, 3, 1, 384]⟩
abbrev S4x1024x384 : Shape := ⟨3, ![4, 1024, 384]⟩
abbrev S9x384 : Shape := ⟨2, ![9, 384]⟩
abbrev S1x1024x384 : Shape := ⟨3, ![1, 1024, 384]⟩
abbrev S1x2x1024x1024 : Shape := ⟨4, ![1, 2, 1024, 1024]⟩
abbrev S1024x384 : Shape := ⟨2, ![1024, 384]⟩
abbrev S384x128 : Shape := ⟨2, ![384, 128]⟩
abbrev S1024x128 : Shape := ⟨2, ![1024, 128]⟩
abbrev S1024x64 : Shape := ⟨2, ![1024, 64]⟩
abbrev S1024x1024 : Shape := ⟨2, ![1024, 1024]⟩
abbrev S1x1x1024x1024 : Shape := ⟨4, ![1, 1, 1024, 1024]⟩
abbrev S1024 : Shape := ⟨1, ![1024]⟩
abbrev S1024x1 : Shape := ⟨2, ![1024, 1]⟩
abbrev S9x128 : Shape := ⟨2, ![9, 128]⟩
abbrev S1x128 : Shape := ⟨2, ![1, 128]⟩
abbrev S1023x128 : Shape := ⟨2, ![1023, 128]⟩
abbrev S32x128 : Shape := ⟨2, ![32, 128]⟩
abbrev S992x128 : Shape := ⟨2, ![992, 128]⟩
abbrev S128 : Shape := ⟨1, ![128]⟩
abbrev S128x384 : Shape := ⟨2, ![128, 384]⟩

abbrev nBuf : Space → Nat
  | .hbm => 12
  | .vmem => 11
  | .smem => 0
  | _ => 0

abbrev bufTy : (tb : Table) → Fin (tcTables nBuf tb) → BufTy
  | .hbm, ⟨0, _⟩ => ⟨S4x32x32x384, .f32⟩
  | .hbm, ⟨1, _⟩ => ⟨S4x6x1024x1024, .f32⟩
  | .hbm, ⟨2, _⟩ => ⟨S384x1152, .f32⟩
  | .hbm, ⟨3, _⟩ => ⟨S1152, .f32⟩
  | .hbm, ⟨4, _⟩ => ⟨S384x384, .f32⟩
  | .hbm, ⟨5, _⟩ => ⟨S384, .f32⟩
  | .hbm, ⟨6, _⟩ => ⟨S3x3x1x384, .f32⟩
  | .hbm, ⟨7, _⟩ => ⟨S384, .f32⟩
  | .hbm, ⟨8, _⟩ => ⟨S4x1024x384, .f32⟩
  | .hbm, ⟨9, _⟩ => ⟨S9x384, .f32⟩
  | .hbm, ⟨10, _⟩ => ⟨S4x6x1024x1024, .f32⟩
  | .hbm, ⟨11, _⟩ => ⟨S4x1024x384, .f32⟩
  | .local _ .vmem, ⟨0, _⟩ => ⟨S1x1024x384, .f32⟩
  | .local _ .vmem, ⟨1, _⟩ => ⟨S1x1024x384, .f32⟩
  | .local _ .vmem, ⟨2, _⟩ => ⟨S1x2x1024x1024, .f32⟩
  | .local _ .vmem, ⟨3, _⟩ => ⟨S1x2x1024x1024, .f32⟩
  | .local _ .vmem, ⟨4, _⟩ => ⟨S384x1152, .f32⟩
  | .local _ .vmem, ⟨5, _⟩ => ⟨S384x384, .f32⟩
  | .local _ .vmem, ⟨6, _⟩ => ⟨S9x384, .f32⟩
  | .local _ .vmem, ⟨7, _⟩ => ⟨S1x2x1024x1024, .f32⟩
  | .local _ .vmem, ⟨8, _⟩ => ⟨S1x2x1024x1024, .f32⟩
  | .local _ .vmem, ⟨9, _⟩ => ⟨S1x1024x384, .f32⟩
  | .local _ .vmem, ⟨10, _⟩ => ⟨S1x1024x384, .f32⟩
  | _, _ => ⟨S4x32x32x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![4, 3], ![false, false]⟩

def k0_off1 (i : grid0.Coords) : Fin 2 → Nat :=
  let c0_2 : Index := 0#32
  let arg1 : BitVec 32 := BitVec.ofNat 32 (i 1).val
  let c128_i32 : BitVec 32 := 128#32
  let v0 : BitVec 32 := Scalar.muli arg1 c128_i32
  let v4 : Index := Scalar.indexCast v0
  ![0, v4.toNat]
def k0_off2 (i : grid0.Coords) (c384_i32 : BitVec 32) : Fin 2 → Nat :=
  let c0_3 : Index := 0#32
  let arg1 : BitVec 32 := BitVec.ofNat 32 (i 1).val
  let c128_i32 : BitVec 32 := 128#32
  let v0 : BitVec 32 := Scalar.muli arg1 c128_i32
  let v7 : BitVec 32 := Scalar.addi c384_i32 v0
  let v8 : Index := Scalar.indexCast v7
  ![0, v8.toNat]
def k0_off3 (i : grid0.Coords) : Fin 2 → Nat :=
  let c0_31 : Index := 0#32
  let arg1 : BitVec 32 := BitVec.ofNat 32 (i 1).val
  let c128_i32 : BitVec 32 := 128#32
  let v0 : BitVec 32 := Scalar.muli arg1 c128_i32
  let v63 : Index := Scalar.indexCast v0
  ![0, v63.toNat]
def k0_off4 (i : grid0.Coords) : Fin 2 → Nat :=
  let arg1 : BitVec 32 := BitVec.ofNat 32 (i 1).val
  let c128_i32 : BitVec 32 := 128#32
  let v0 : BitVec 32 := Scalar.muli arg1 c128_i32
  let v169 : Index := Scalar.indexCast v0
  let c0_41 : Index := 0#32
  ![v169.toNat, 0]
def k0_cond1 (i : grid0.Coords) : BitVec 1 :=
  let arg1 : BitVec 32 := BitVec.ofNat 32 (i 1).val
  let c0_i32_43 : BitVec 32 := 0#32
  let v174 : BitVec 1 := Scalar.cmpi .eq arg1 c0_i32_43
  let v175 : BitVec 32 := Scalar.extui v174
  let c0_i32_44 : BitVec 32 := 0#32
  let v176 : BitVec 1 := Scalar.cmpi .ne v175 c0_i32_44
  v176

def k0_cond2 (i : grid0.Coords) : BitVec 1 :=
  let arg1 : BitVec 32 := BitVec.ofNat 32 (i 1).val
  let c0_i32_45 : BitVec 32 := 0#32
  let v177 : BitVec 1 := Scalar.cmpi .ne arg1 c0_i32_45
  let v178 : BitVec 32 := Scalar.extui v177
  let c0_i32_46 : BitVec 32 := 0#32
  let v179 : BitVec 1 := Scalar.cmpi .ne v178 c0_i32_46
  v179

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S384x1152 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S384x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S9x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x2x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== KernelIdeal.lean ====
variable {F : FTy → Type} [FloatOps F] [Named F]
def κ : String → Option EReal := fun
  | "scale_log2e" => some (((1 / 8) * (Real.log 2)⁻¹ : ℝ) : EReal)
  | _ => none
-- ==== ReferenceIdeal.lean ====
abbrev S4x32x32x384 : Shape := ⟨4, ![4, 32, 32, 384]⟩
abbrev S4x6x1024x1024 : Shape := ⟨4, ![4, 6, 1024, 1024]⟩
abbrev S384x1152 : Shape := ⟨2, ![384, 1152]⟩
abbrev S1152 : Shape := ⟨1, ![1152]⟩
abbrev S384x384 : Shape := ⟨2, ![384, 384]⟩
abbrev S384 : Shape := ⟨1, ![384]⟩
abbrev S3x3x1x384 : Shape := ⟨4, ![3, 3, 1, 384]⟩
abbrev S4x1024x384 : Shape := ⟨3, ![4, 1024, 384]⟩
abbrev S4x1024x1152 : Shape := ⟨3, ![4, 1024, 1152]⟩
abbrev S1x1x1152 : Shape := ⟨3, ![1, 1, 1152]⟩
abbrev S4x1024x3x6x64 : Shape := ⟨5, ![4, 1024, 3, 6, 64]⟩
abbrev S3x4x6x1024x64 : Shape := ⟨5, ![3, 4, 6, 1024, 64]⟩
abbrev S1x4x6x1024x64 : Shape := ⟨5, ![1, 4, 6, 1024, 64]⟩
abbrev S4x6x1024x64 : Shape := ⟨4, ![4, 6, 1024, 64]⟩
abbrev S_ : Shape := ⟨0, ![]⟩
abbrev S4x6x1024 : Shape := ⟨3, ![4, 6, 1024]⟩
abbrev S4x6x1024x1 : Shape := ⟨4, ![4, 6, 1024, 1]⟩
abbrev S4x1024x6x64 : Shape := ⟨4, ![4, 1024, 6, 64]⟩
abbrev S4x34x34x384 : Shape := ⟨4, ![4, 34, 34, 384]⟩
abbrev S1x1x1x384 : Shape := ⟨4, ![1, 1, 1, 384]⟩
abbrev S1x1x384 : Shape := ⟨3, ![1, 1, 384]⟩

abbrev nBuf : Space → Nat
  | .hbm => 122
  | .vmem => 0
  | .smem => 0
  | _ => 0

abbrev bufTy : (tb : Table) → Fin (tcTables nBuf tb) → BufTy
  | .hbm, ⟨0, _⟩ => ⟨S4x32x32x384, .f32⟩
  | .hbm, ⟨1, _⟩ => ⟨S4x6x1024x1024, .f32⟩
  | .hbm, ⟨2, _⟩ => ⟨S384x1152, .f32⟩
  | .hbm, ⟨3, _⟩ => ⟨S1152, .f32⟩
  | .hbm, ⟨4, _⟩ => ⟨S384x384, .f32⟩
  | .hbm, ⟨5, _⟩ => ⟨S384, .f32⟩
  | .hbm, ⟨6, _⟩ => ⟨S3x3x1x384, .f32⟩
  | .hbm, ⟨7, _⟩ => ⟨S384, .f32⟩
  | .hbm, ⟨8, _⟩ => ⟨S4x1024x384, .f32⟩
  | .hbm, ⟨9, _⟩ => ⟨S4x1024x1152, .f32⟩
  | .hbm, ⟨10, _⟩ => ⟨S1x1x1152, .f32⟩
  | .hbm, ⟨11, _⟩ => ⟨S4x1024x1152, .f32⟩
  | .hbm, ⟨12, _⟩ => ⟨S4x1024x1152, .f32⟩
  | .hbm, ⟨13, _⟩ => ⟨S4x1024x3x6x64, .f32⟩
  | .hbm, ⟨14, _⟩ => ⟨S3x4x6x1024x64, .f32⟩
  | .hbm, ⟨15, _⟩ => ⟨S1x4x6x1024x64, .f32⟩
  | .hbm, ⟨16, _⟩ => ⟨S4x6x1024x64, .f32⟩
  | .hbm, ⟨17, _⟩ => ⟨S1x4x6x1024x64, .f32⟩
  | .hbm, ⟨18, _⟩ => ⟨S4x6x1024x64, .f32⟩
  | .hbm, ⟨19, _⟩ => ⟨S1x4x6x1024x64, .f32⟩
  | .hbm, ⟨20, _⟩ => ⟨S4x6x1024x64, .f32⟩
  | .hbm, ⟨21, _⟩ => ⟨S4x6x1024x1024, .f32⟩
  | .hbm, ⟨22, _⟩ => ⟨S_, .f32⟩
  | .hbm, ⟨23, _⟩ => ⟨S4x6x1024x1024, .f32⟩
  | .hbm, ⟨24, _⟩ => ⟨S4x6x1024x1024, .f32⟩
  | .hbm, ⟨25, _⟩ => ⟨S4x6x1024x1024, .f32⟩
  | .hbm, ⟨26, _⟩ => ⟨S_, .f32⟩
  | .hbm, ⟨27, _⟩ => ⟨S4x6x1024, .f32⟩
  | .hbm, ⟨28, _⟩ => ⟨S_, .f32⟩
  | .hbm, ⟨29, _⟩ => ⟨S4x6x1024, .f32⟩
  | .hbm, ⟨30, _⟩ => ⟨S4x6x1024, .f32⟩
  | .hbm, ⟨31, _⟩ => ⟨S4x6x1024x1, .f32⟩
  | .hbm, ⟨32, _⟩ => ⟨S4x6x1024x1024, .f32⟩
  | .hbm, ⟨33, _⟩ => ⟨S4x6x1024x1024, .f32⟩
  | .hbm, ⟨34, _⟩ => ⟨S4x6x1024x1024, .f32⟩
  | .hbm, ⟨35, _⟩ => ⟨S_, .f32⟩
  | .hbm, ⟨36, _⟩ => ⟨S4x6x1024, .f32⟩
  | .hbm, ⟨37, _⟩ => ⟨S4x6x1024x1, .f32⟩
  | .hbm, ⟨38, _⟩ => ⟨S4x6x1024x1024, .f32⟩
  | .hbm, ⟨39, _⟩ => ⟨S4x6x1024x1024, .f32⟩
  | .hbm, ⟨40, _⟩ => ⟨S4x6x1024x64, .f32⟩
  | .hbm, ⟨41, _⟩ => ⟨S4x1024x6x64, .f32⟩
  | .hbm, ⟨42, _⟩ => ⟨S4x1024x384, .f32⟩
  | .hbm, ⟨43, _⟩ => ⟨S4x1024x6x64, .f32⟩
  | .hbm, ⟨44, _⟩ => ⟨S4x32x32x384, .f32⟩
  | .hbm, ⟨45, _⟩ => ⟨S_, .i32⟩
  | .hbm, ⟨46, _⟩ => ⟨S_, .f32⟩
  | .hbm, ⟨47, _⟩ => ⟨S4x34x34x384, .f32⟩
  | .hbm, ⟨48, _⟩ => ⟨S4x32x32x384, .f32⟩
  | .hbm, ⟨49, _⟩ => ⟨S1x1x1x384, .f32⟩
  | .hbm, ⟨50, _⟩ => ⟨S384, .f32⟩
  | .hbm, ⟨51, _⟩ => ⟨S1x1x1x384, .f32⟩
  | .hbm, ⟨52, _⟩ => ⟨S4x32x32x384, .f32⟩
  | .hbm, ⟨53, _⟩ => ⟨S4x32x32x384, .f32⟩
  | .hbm, ⟨54, _⟩ => ⟨S_, .f32⟩
  | .hbm, ⟨55, _⟩ => ⟨S4x32x32x384, .f32⟩
  | .hbm, ⟨56, _⟩ => ⟨S4x32x32x384, .f32⟩
  | .hbm, ⟨57, _⟩ => ⟨S4x32x32x384, .f32⟩
  | .hbm, ⟨58, _⟩ => ⟨S1x1x1x384, .f32⟩
  | .hbm, ⟨59, _⟩ => ⟨S384, .f32⟩
  | .hbm, ⟨60, _⟩ => ⟨S1x1x1x384, .f32⟩
  | .hbm, ⟨61, _⟩ => ⟨S4x32x32x384, .f32⟩
  | .hbm, ⟨62, _⟩ => ⟨S4x32x32x384, .f32⟩
  | .hbm, ⟨63, _⟩ => ⟨S4x32x32x384, .f32⟩
  | .hbm, ⟨64, _⟩ => ⟨S4x32x32x384, .f32⟩
  | .hbm, ⟨65, _⟩ => ⟨S1x1x1x384, .f32⟩
  | .hbm, ⟨66, _⟩ => ⟨S384, .f32⟩
  | .hbm, ⟨67, _⟩ => ⟨S1x1x1x384, .f32⟩
  | .hbm, ⟨68, _⟩ => ⟨S4x32x32x384, .f32⟩
  | .hbm, ⟨69, _⟩ => ⟨S4x32x32x384, .f32⟩
  | .hbm, ⟨70, _⟩ => ⟨S4x32x32x384, .f32⟩
  | .hbm, ⟨71, _⟩ => ⟨S4x32x32x384, .f32⟩
  | .hbm, ⟨72, _⟩ => ⟨S1x1x1x384, .f32⟩
  | .hbm, ⟨73, _⟩ => ⟨S384, .f32⟩
  | .hbm, ⟨74, _⟩ => ⟨S1x1x1x384, .f32⟩
  | .hbm, ⟨75, _⟩ => ⟨S4x32x32x384, .f32⟩
  | .hbm, ⟨76, _⟩ => ⟨S4x32x32x384, .f32⟩
  | .hbm, ⟨77, _⟩ => ⟨S4x32x32x384, .f32⟩
  | .hbm, ⟨78, _⟩ => ⟨S4x32x32x384, .f32⟩
  | .hbm, ⟨79, _⟩ => ⟨S1x1x1x384, .f32⟩
  | .hbm, ⟨80, _⟩ => ⟨S384, .f32⟩
  | .hbm, ⟨81, _⟩ => ⟨S1x1x1x384, .f32⟩
  | .hbm, ⟨82, _⟩ => ⟨S4x32x32x384, .f32⟩
  | .hbm, ⟨83, _⟩ => ⟨S4x32x32x384, .f32⟩
  | .hbm, ⟨84, _⟩ => ⟨S4x32x32x384, .f32⟩
  | .hbm, ⟨85, _⟩ => ⟨S4x32x32x384, .f32⟩
  | .hbm, ⟨86, _⟩ => ⟨S1x1x1x384, .f32⟩
  | .hbm, ⟨87, _⟩ => ⟨S384, .f32⟩
  | .hbm, ⟨88, _⟩ => ⟨S1x1x1x384, .f32⟩
  | .hbm, ⟨89, _⟩ => ⟨S4x32x32x384, .f32⟩
  | .hbm, ⟨90, _⟩ => ⟨S4x32x32x384, .f32⟩
  | .hbm, ⟨91, _⟩ => ⟨S4x32x32x384, .f32⟩
  | .hbm, ⟨92, _⟩ => ⟨S4x32x32x384, .f32⟩
  | .hbm, ⟨93, _⟩ => ⟨S1x1x1x384, .f32⟩
  | .hbm, ⟨94, _⟩ => ⟨S384, .f32⟩
  | .hbm, ⟨95, _⟩ => ⟨S1x1x1x384, .f32⟩
  | .hbm, ⟨96, _⟩ => ⟨S4x32x32x384, .f32⟩
  | .hbm, ⟨97, _⟩ => ⟨S4x32x32x384, .f32⟩
  | .hbm, ⟨98, _⟩ => ⟨S4x32x32x384, .f32⟩
  | .hbm, ⟨99, _⟩ => ⟨S4x32x32x384, .f32⟩
  | .hbm, ⟨100, _⟩ => ⟨S1x1x1x384, .f32⟩
  | .hbm, ⟨101, _⟩ => ⟨S384, .f32⟩
  | .hbm, ⟨102, _⟩ => ⟨S1x1x1x384, .f32⟩
  | .hbm, ⟨103, _⟩ => ⟨S4x32x32x384, .f32⟩
  | .hbm, ⟨104, _⟩ => ⟨S4x32x32x384, .f32⟩
  | .hbm, ⟨105, _⟩ => ⟨S4x32x32x384, .f32⟩
  | .hbm, ⟨106, _⟩ => ⟨S4x32x32x384, .f32⟩
  | .hbm, ⟨107, _⟩ => ⟨S1x1x1x384, .f32⟩
  | .hbm, ⟨108, _⟩ => ⟨S384, .f32⟩
  | .hbm, ⟨109, _⟩ => ⟨S1x1x1x384, .f32⟩
  | .hbm, ⟨110, _⟩ => ⟨S4x32x32x384, .f32⟩
  | .hbm, ⟨111, _⟩ => ⟨S4x32x32x384, .f32⟩
  | .hbm, ⟨112, _⟩ => ⟨S4x32x32x384, .f32⟩
  | .hbm, ⟨113, _⟩ => ⟨S1x1x1x384, .f32⟩
  | .hbm, ⟨114, _⟩ => ⟨S4x32x32x384, .f32⟩
  | .hbm, ⟨115, _⟩ => ⟨S4x32x32x384, .f32⟩
  | .hbm, ⟨116, _⟩ => ⟨S4x1024x384, .f32⟩
  | .hbm, ⟨117, _⟩ => ⟨S4x1024x384, .f32⟩
  | .hbm, ⟨118, _⟩ => ⟨S4x1024x384, .f32⟩
  | .hbm, ⟨119, _⟩ => ⟨S1x1x384, .f32⟩
  | .hbm, ⟨120, _⟩ => ⟨S4x1024x384, .f32⟩
  | .hbm, ⟨121, _⟩ => ⟨S4x1024x384, .f32⟩
  | _, _ => ⟨S4x32x32x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c : Ref sig .tc := ⟨.hbm, 45, rfl⟩
abbrev main_call0_v0 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_3 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩

abbrev nD : Nat := 1
abbrev τ : Topo := Topo.v7x

variable {F : FTy → Type} [FloatOps F]
-- ==== Proof.Frames.lean ====
/- The claims that say nothing of a result's value: that each of the three programs runs to an end with its arguments
   unchanged and every semaphore counter at zero, and that the kernel's one named constant is the real number it stands
   for. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Quiescent

@[expose] public section

noncomputable section

namespace Cert.Proof

open Idealize.ShloMosaic Idealize.ShloMosaic.TcCoe Idealize.SL.Sem

/-- The kernel runs to an end, keeps its arguments and leaves every counter at zero. -/
theorem frame_kernel : Cert.quiescent_Kernel := fun m ρ _ => Cert.Kernel.Gen.frame m ρ

/-- So does the kernel over the extended reals. -/
theorem frame_ideal : Cert.quiescent_KernelIdeal := fun m ρ _ => Cert.KernelIdeal.Gen.frame m ρ

/-- So does the reference over the extended reals. -/
theorem frame_reference : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- The named constant of the kernel is one eighth of the inverse of the natural logarithm of two. -/
theorem preserves : Cert.preserves_Kernel_KernelIdeal :=
  IdealRules.named_const.statement Cert.KernelIdeal.κ "scale_log2e" .f32 0x3E38AA3B#32
    (((1 / 8) * (Real.log 2)⁻¹ : ℝ) : EReal) rfl

end Cert.Proof

end
-- ==== Proof.Spec.lean ====
/- The functions of the argument arrays that both programs are shown to compute: the attention weights of every head, and
   the projected output with the depthwise convolution of the values added. -/
module

public import Idealize.ShloMosaic.Lib.Pointwise
import Mathlib.Tactic.NormNum

@[expose] public section

set_option maxRecDepth 16384

noncomputable section

namespace Cert.Proof

open Idealize.ShloMosaic

/-- The number the scores are scaled by before the power of two is taken: an eighth over the natural logarithm of two. -/
def scale : ℝ := (1 / 8) * (Real.log 2)⁻¹

/-- The weights of one head as the kernel forms them: two to the power of each score, times one over the row's sum. -/
def weights (Q K : Fin 1024 → Fin 64 → EReal) (p : Fin 1024 → Fin 1024 → EReal) (n k : Fin 1024) : EReal :=
  Ideal.exp2 ((∑ d : Fin 64, (Q n d * (scale : EReal)) * K k d) * p n k) *
    Ideal.div 1 (∑ l : Fin 1024, Ideal.exp2 ((∑ d : Fin 64, (Q n d * (scale : EReal)) * K l d) * p n l))

/-- The entry of the 32 by 32 picture `f` one row and one column off: `i` and `j` count from 0 to 2, and 1 is no
    shift. Outside of the picture it is zero. -/
def tap (f : Fin 1024 → EReal) (i j : ℕ) (n : Fin 1024) : EReal :=
  if h : 1 ≤ n.val / 32 + i ∧ n.val / 32 + i ≤ 32 ∧ 1 ≤ n.val % 32 + j ∧ n.val % 32 + j ≤ 32 then
    f ⟨(n.val / 32 + i - 1) * 32 + (n.val % 32 + j - 1), by omega⟩
  else 0

/-- The three by three convolution of one channel at one position, tap by tap in row order. -/
def conv (f : Fin 1024 → EReal) (l : Fin 9 → EReal) (n : Fin 1024) : EReal :=
  tap f 0 0 n * l 0 + tap f 0 1 n * l 1 + tap f 0 2 n * l 2 + tap f 1 0 n * l 3 + tap f 1 1 n * l 4 +
    tap f 1 2 n * l 5 + tap f 2 0 n * l 6 + tap f 2 1 n * l 7 + tap f 2 2 n * l 8

variable (X : FVec Ideal ⟨4, ![4, 32, 32, 384]⟩ .f32) (P : FVec Ideal ⟨4, ![4, 6, 1024, 1024]⟩ .f32)
  (W : FVec Ideal ⟨2, ![384, 1152]⟩ .f32) (Wp : FVec Ideal ⟨2, ![384, 384]⟩ .f32)
  (L : FVec Ideal ⟨4, ![3, 3, 1, 384]⟩ .f32)

/-- Position `n` of picture `b`, projected on column `c` of the weights. -/
def proj (b : Fin 4) (n : Fin 1024) (c : Fin 1152) : EReal :=
  ∑ k : Fin 384, X (ix4 b ⟨n.val / 32, by omega⟩ ⟨n.val % 32, by omega⟩ k) * W (ix2 k c)

/-- The query of head `h`. -/
def query (b : Fin 4) (h : Fin 6) (n : Fin 1024) (d : Fin 64) : EReal := proj X W b n ⟨h.val * 64 + d.val, by omega⟩

/-- The key of head `h`. -/
def key (b : Fin 4) (h : Fin 6) (n : Fin 1024) (d : Fin 64) : EReal :=
  proj X W b n ⟨384 + (h.val * 64 + d.val), by omega⟩

/-- The values, over the channels of all heads. -/
def value (b : Fin 4) (n : Fin 1024) (c : Fin 384) : EReal := proj X W b n ⟨768 + c.val, by omega⟩

/-- The attention weights: the first program's second result. -/
def attn (b : Fin 4) (h : Fin 6) (n k : Fin 1024) : EReal :=
  weights (query X W b h) (key X W b h) (fun n k => P (ix4 b h n k)) n k

/-- What is projected at the end: the values mixed by the weights of the channel's head, plus their convolution. -/
def mixed (b : Fin 4) (n : Fin 1024) (c : Fin 384) : EReal :=
  (∑ k : Fin 1024, attn X P W b ⟨c.val / 64, by omega⟩ n k * value X W b k c) +
    conv (fun k => value X W b k c) (fun i => L (ix4 ⟨i.val / 3, by omega⟩ ⟨i.val % 3, by omega⟩ 0 c)) n

/-- The projected output: the first result. -/
def output (b : Fin 4) (n : Fin 1024) (e : Fin 384) : EReal :=
  ∑ c : Fin 384, mixed X P W L b n c * Wp (ix2 c e)

end Cert.Proof

end
-- ==== Proof.Soft.lean ====
/- The softmax of a row of real scores: taking the row's largest score off first, or nothing, and a power of two of scores
   scaled by one over the logarithm of two, or a power of e, give the same weights. -/
module

public import proofs.«01_k».proof.Proof.Spec
import Mathlib.Tactic.NormNum
import Mathlib.Tactic.Push
import Mathlib.Tactic.FieldSimp
import Mathlib.Tactic.Ring
import Mathlib.Tactic.Positivity
import Mathlib.Analysis.SpecialFunctions.Pow.Real

@[expose] public section

noncomputable section

namespace Cert.Proof

open Idealize.ShloMosaic

/-- A finite sum of real numbers, taken among the extended reals, is the real sum. -/
theorem sum_real {n : ℕ} (f : Fin n → ℝ) : (∑ i, (f i : EReal)) = ((∑ i, f i : ℝ) : EReal) := by
  induction n with
  | zero => simp
  | succ n ih => rw [Fin.sum_univ_succ, Fin.sum_univ_succ, ih, EReal.coe_add]

/-- Two to the power of a scaled score is e to the power of an eighth of it. -/
theorem two_pow_scale (s p : ℝ) : Real.rpow 2 (s * scale * p) = Real.exp (s * (1 / 8) * p) := by
  have h : Real.log 2 ≠ 0 := Real.log_ne_zero_of_pos_of_ne_one (by norm_num) (by norm_num)
  show (2 : ℝ) ^ (s * scale * p) = _
  rw [Real.rpow_def_of_pos (by norm_num)]
  congr 1
  unfold scale
  field_simp

/-- A scaled dot product of reals, times the prior, as a power of two. -/
theorem two_pow_score (q k : Fin 64 → ℝ) (p : ℝ) :
    Ideal.exp2 ((∑ d : Fin 64, ((q d : EReal) * (scale : EReal)) * (k d : EReal)) * (p : EReal)) =
      ((Real.exp ((∑ d : Fin 64, q d * k d) * (1 / 8) * p) : ℝ) : EReal) := by
  have e : ∀ d : Fin 64, ((q d : EReal) * (scale : EReal)) * (k d : EReal) = ((q d * scale * k d : ℝ) : EReal) :=
    fun d => by rw [EReal.coe_mul, EReal.coe_mul]
  simp only [e]
  rw [sum_real, ← EReal.coe_mul, Ideal.exp2_coe, ← two_pow_scale]
  have h : ∑ d : Fin 64, q d * scale * k d = (∑ d : Fin 64, q d * k d) * scale := by
    rw [Finset.sum_mul]
    exact Finset.sum_congr rfl fun d _ => by ring
  rw [h]

/-- The kernel's weights over real arrays are the softmax with any real number taken off the scores first. -/
theorem weights_eq_softmax (Q K : Fin 1024 → Fin 64 → ℝ) (p : Fin 1024 → Fin 1024 → ℝ) (n k : Fin 1024) (M : ℝ) :
    weights (fun n d => (Q n d : EReal)) (fun n d => (K n d : EReal)) (fun n k => (p n k : EReal)) n k =
      Ideal.div (Ideal.exp (((((∑ d : Fin 64, Q n d * K k d) * (1 / 8) * p n k : ℝ) : EReal)) - (M : EReal)))
        (∑ l : Fin 1024,
          Ideal.exp (((((∑ d : Fin 64, Q n d * K l d) * (1 / 8) * p n l : ℝ) : EReal)) - (M : EReal))) := by
  unfold weights
  simp only [two_pow_score, ← EReal.coe_sub, Ideal.exp_coe]
  rw [sum_real, sum_real]
  have h1 : (0 : ℝ) < ∑ l : Fin 1024, Real.exp ((∑ d : Fin 64, Q n d * K l d) * (1 / 8) * p n l) :=
    Finset.sum_pos (fun l _ => Real.exp_pos _) ⟨0, Finset.mem_univ _⟩
  have h2 : (0 : ℝ) < ∑ l : Fin 1024, Real.exp ((∑ d : Fin 64, Q n d * K l d) * (1 / 8) * p n l - M) :=
    Finset.sum_pos (fun l _ => Real.exp_pos _) ⟨0, Finset.mem_univ _⟩
  rw [Ideal.div_coe h1.ne', Ideal.div_coe h2.ne', one_mul, ← EReal.coe_mul, ← EReal.coe_mul]
  congr 1
  have e : ∀ z : ℝ, Real.exp (z - M) = Real.exp z * Real.exp (-M) := fun z => by rw [sub_eq_add_neg, Real.exp_add]
  simp only [e] at h2 ⊢
  rw [← Finset.sum_mul] at h2 ⊢
  have h3 : Real.exp (-M) ≠ 0 := (Real.exp_pos _).ne'
  field_simp

/-- The largest of a nonempty finite row of reals, found by a fold that starts from minus infinity, is a real number. -/
theorem fold_max_real {n : ℕ} (f : Fin (n + 1) → ℝ) :
    ∃ M : ℝ, Finset.univ.fold max (⊥ : EReal) (fun i => (f i : EReal)) = (M : EReal) := by
  have key : ∀ s : Finset (Fin (n + 1)), Finset.fold max (⊥ : EReal) (fun i => (f i : EReal)) s = ⊥ ∧ s = ∅ ∨
      ∃ M : ℝ, Finset.fold max (⊥ : EReal) (fun i => (f i : EReal)) s = (M : EReal) := by
    intro s
    induction s using Finset.induction_on with
    | empty => exact Or.inl ⟨Finset.fold_empty, rfl⟩
    | insert a s ha ih =>
      right
      rw [Finset.fold_insert ha]
      rcases ih with ⟨h, _⟩ | ⟨M, h⟩
      · exact ⟨f a, by rw [h]; exact max_eq_left bot_le⟩
      · exact ⟨max (f a) M, by rw [h]; exact (EReal.coe_strictMono.monotone.map_max).symm⟩
  rcases key Finset.univ with ⟨_, h⟩ | h
  · exact absurd h (Finset.univ_nonempty (α := Fin (n + 1))).ne_empty
  · exact h

end Cert.Proof

end
-- ==== Proof.Consts.lean ====
/- The constants of the two programs as numbers. -/
module

public import proofs.«01_k».proof.Proof.Spec
public import proofs.«01_k».proof.Proof.Gen.KernelIdeal
import Mathlib.Tactic.NormNum

@[expose] public section

noncomputable section

namespace Cert.Proof

open Idealize.ShloMosaic

/-- The constant the scores are scaled by in the reference is an eighth. -/
theorem eighth : Ideal.ofBits .f32 0x3E000000#32 = ((1 / 8 : ℝ) : EReal) := by
  simp [Ideal.ofBits, Ideal.ieee, -EReal.coe_mul]
  norm_num

/-- The constant the row's largest score is searched from is minus infinity. -/
theorem minus_infinity : Ideal.ofBits .f32 0xFF800000#32 = (⊥ : EReal) := by
  simp [Ideal.ofBits, Ideal.ieee]

/-- The constant a score is compared against to be finite is plus infinity. -/
theorem plus_infinity : Ideal.ofBits .f32 0x7F800000#32 = (⊤ : EReal) := by
  simp [Ideal.ofBits, Ideal.ieee]

/-- The kernel's named constant is the scale of `weights`. -/
theorem named_scale : Named.named (F := Ideal) Cert.KernelIdeal.κ "scale_log2e" (φ := .f32) 0x3E38AA3B#32 =
    (scale : EReal) :=
  IdealRules.named_const.ideal_named_scalar _ _ _ _ rfl

end Cert.Proof

end
-- ==== Proof.Ref.lean ====
/- The reference read at an index: its weights are a softmax of the scores, and its output is `output` over them. -/
module

public import proofs.«01_k».proof.Proof.Spec
public import proofs.«01_k».proof.Proof.Soft
public import proofs.«01_k».proof.Proof.Consts
public import proofs.«01_k».proof.Proof.Gen.ReferenceIdeal.Read
public import Idealize.ShloMosaic.Lib.Pointwise
import Mathlib.Tactic.NormNum

@[expose] public section

set_option maxRecDepth 16384

noncomputable section

namespace Cert.Proof

open Idealize.ShloMosaic Idealize.SL.Sem
open Cert.ReferenceIdeal Cert.ReferenceIdeal.Read

variable (X : FVec Ideal S4x32x32x384 .f32) (P : FVec Ideal S4x6x1024x1024 .f32) (W : FVec Ideal S384x1152 .f32)
  (Bq : FVec Ideal S1152 .f32) (Wp : FVec Ideal S384x384 .f32) (Bp : FVec Ideal S384 .f32)
  (L : FVec Ideal S3x3x1x384 .f32) (Bl : FVec Ideal S384 .f32)

/-- Without a bias the projection of the reference is `proj`. -/
theorem ref_proj (hq : ∀ c, Bq (ix1 c) = 0) (b : Fin 4) (n : Fin 1024) (c : Fin 1152) :
    val_main_v4 (F := Ideal) X W Bq (ix3 b n c) = proj X W b n c := by
  pointwise [val_main_v4, val_main_v3, val_main_v2, val_main_v1, val_main_v0]
  rw [hq, add_zero]
  rfl

/-- The reference's queries. -/
theorem ref_query (hq : ∀ c, Bq (ix1 c) = 0) (b : Fin 4) (h : Fin 6) (n : Fin 1024) (d : Fin 64) :
    val_main_v8 (F := Ideal) X W Bq (ix4 b h n d) = query X W b h n d := by
  pointwise [val_main_v8, val_main_v7, val_main_v6, val_main_v5]
  exact ref_proj X W Bq hq b n _

/-- The reference's keys. -/
theorem ref_key (hq : ∀ c, Bq (ix1 c) = 0) (b : Fin 4) (h : Fin 6) (n : Fin 1024) (d : Fin 64) :
    val_main_v10 (F := Ideal) X W Bq (ix4 b h n d) = key X W b h n d := by
  pointwise [val_main_v10, val_main_v9, val_main_v6, val_main_v5]
  rw [ref_proj X W Bq hq b n]
  exact congrArg (proj X W b n) (Fin.ext (by show 384 + h.val * 64 + d.val = 384 + (h.val * 64 + d.val); omega))

/-- The reference's values, head by head. -/
theorem ref_value (hq : ∀ c, Bq (ix1 c) = 0) (b : Fin 4) (n : Fin 1024) (c : Fin 384) :
    val_main_v12 (F := Ideal) X W Bq (ix4 b ⟨c.val / 64, by omega⟩ n ⟨c.val % 64, by omega⟩) = value X W b n c := by
  pointwise [val_main_v12, val_main_v11, val_main_v6, val_main_v5]
  rw [ref_proj X W Bq hq b n]
  exact congrArg (proj X W b n)
    (Fin.ext (by show 768 + c.val / 64 * 64 + c.val % 64 = 768 + c.val; omega))

/-- The reference's scores. -/
theorem ref_score (hq : ∀ c, Bq (ix1 c) = 0) (b : Fin 4) (h : Fin 6) (n k : Fin 1024) :
    val_main_v16 (F := Ideal) X P W Bq (ix4 b h n k) =
      (∑ d : Fin 64, query X W b h n d * key X W b h k d) * ((1 / 8 : ℝ) : EReal) * P (ix4 b h n k) := by
  pointwise [val_main_v16, val_main_v15, val_main_v14, val_main_v13, val_main_cst]
  simp only [ref_query X W Bq hq, ref_key X W Bq hq, eighth]

/-- The number the reference takes off a row of scores: the fold of the row by the maximum, from minus infinity. -/
theorem ref_max (b : Fin 4) (h : Fin 6) (n : Fin 1024) :
    val_main_v19 (F := Ideal) X P W Bq (ix3 b h n) =
      Finset.univ.fold max (⊥ : EReal) fun k : Fin 1024 => val_main_v16 (F := Ideal) X P W Bq (ix4 b h n k) := by
  have e : val_main_v17 (F := Ideal) X P W Bq (ix3 b h n) =
      Finset.univ.fold max (⊥ : EReal) fun k : Fin 1024 => val_main_v16 (F := Ideal) X P W Bq (ix4 b h n k) := by
    unfold val_main_v17
    generalize val_main_v16 (F := Ideal) X P W Bq = s
    pointwise
    rw [val_main_cst_0_apply]
    show Finset.fold max (Ideal.ofBits .f32 0xFF800000#32) _ _ = _
    rw [minus_infinity]
  rw [val_main_v19_apply, val_main_v18_apply, val_main_cst_1_apply, e]
  show max (Ideal.ofBits .f32 0xFF800000#32) _ = _
  rw [minus_infinity]
  exact max_eq_right bot_le

/-- The reference's weights: each score less the row's number, as a power of e, over the sum of the row's. -/
theorem ref_weights (b : Fin 4) (h : Fin 6) (n k : Fin 1024) :
    val_main_v27 (F := Ideal) X P W Bq (ix4 b h n k) =
      Ideal.div
        (Ideal.exp (val_main_v16 (F := Ideal) X P W Bq (ix4 b h n k) - val_main_v19 (F := Ideal) X P W Bq (ix3 b h n)))
        (∑ l : Fin 1024, Ideal.exp
          (val_main_v16 (F := Ideal) X P W Bq (ix4 b h n l) - val_main_v19 (F := Ideal) X P W Bq (ix3 b h n))) := by
  have e : ∀ l : Fin 1024, val_main_v23 (F := Ideal) X P W Bq (ix4 b h n l) = Ideal.exp
      (val_main_v16 (F := Ideal) X P W Bq (ix4 b h n l) - val_main_v19 (F := Ideal) X P W Bq (ix3 b h n)) := by
    intro l
    unfold val_main_v23 val_main_v22 val_main_v21 val_main_v20
    generalize val_main_v16 (F := Ideal) X P W Bq = s
    generalize val_main_v19 (F := Ideal) X P W Bq = t
    pointwise
  have f : val_main_v24 (F := Ideal) X P W Bq (ix3 b h n) =
      ∑ l : Fin 1024, val_main_v23 (F := Ideal) X P W Bq (ix4 b h n l) := by
    unfold val_main_v24
    generalize val_main_v23 (F := Ideal) X P W Bq = s
    pointwise
    rw [val_main_cst_2_apply]
    show Ideal.ofBits .f32 0x00000000#32 + _ = _
    rw [Ideal.ofBits_zero_f32, zero_add]
  pointwise [val_main_v27, val_main_v26, val_main_v25]
  rw [f, e]
  simp only [e]

/-- The padded picture of the values of one channel, `i` rows and `j` columns on, is `tap`. -/
theorem ref_tap (hq : ∀ c, Bq (ix1 c) = 0) (b : Fin 4) (n : Fin 1024) (i j : ℕ) (hi : i ≤ 2) (hj : j ≤ 2)
    (c : Fin 384) (y x : Fin 34) (hy : y.val = n.val / 32 + i) (hx : x.val = n.val % 32 + j) :
    val_main_v33 (F := Ideal) X W Bq (ix4 b y x c) = tap (fun k => value X W b k c) i j n := by
  pointwise [val_main_v33, val_main_v32, val_main_v31]
  unfold tap
  by_cases h : 1 ≤ n.val / 32 + i ∧ n.val / 32 + i ≤ 32 ∧ 1 ≤ n.val % 32 + j ∧ n.val % 32 + j ≤ 32
  · rw [dif_pos h, dif_pos (by omega), ref_value X W Bq hq]
    exact congrArg (fun k => value X W b k c) (Fin.ext (by
      show (y.val - 1) * 32 + (x.val - 1) = (n.val / 32 + i - 1) * 32 + (n.val % 32 + j - 1); rw [hy, hx]))
  · rw [dif_neg h, dif_neg (by omega), val_main_call0_v0_apply, val_main_c_apply]
    simp [FloatOps.sitofp]

/-- The reference's convolution. -/
theorem ref_conv (hq : ∀ c, Bq (ix1 c) = 0) (b : Fin 4) (n : Fin 1024) (c : Fin 384) :
    val_main_v97 (F := Ideal) X W Bq L (ix4 b ⟨n.val / 32, by omega⟩ ⟨n.val % 32, by omega⟩ c) =
      conv (fun k => value X W b k c) (fun i => L (ix4 ⟨i.val / 3, by omega⟩ ⟨i.val % 3, by omega⟩ 0 c)) n := by
  pointwise [val_main_v34, val_main_v35, val_main_v36, val_main_v37, val_main_v38, val_main_v39, val_main_v40,
    val_main_v41, val_main_v42, val_main_v43, val_main_v44, val_main_v45, val_main_v46, val_main_v47, val_main_v48,
    val_main_v49, val_main_v50, val_main_v51, val_main_v52, val_main_v53, val_main_v54, val_main_v55, val_main_v56,
    val_main_v57, val_main_v58, val_main_v59, val_main_v60, val_main_v61, val_main_v62, val_main_v63, val_main_v64,
    val_main_v65, val_main_v66, val_main_v67, val_main_v68, val_main_v69, val_main_v70, val_main_v71, val_main_v72,
    val_main_v73, val_main_v74, val_main_v75, val_main_v76, val_main_v77, val_main_v78, val_main_v79, val_main_v80,
    val_main_v81, val_main_v82, val_main_v83, val_main_v84, val_main_v85, val_main_v86, val_main_v87, val_main_v88,
    val_main_v89, val_main_v90, val_main_v91, val_main_v92, val_main_v93, val_main_v94, val_main_v95, val_main_v96,
    val_main_v97, val_main_cst_3]
  rw [ref_tap X W Bq hq b n 0 0 (by omega) (by omega) c ⟨n.val / 32, by omega⟩ ⟨n.val % 32, by omega⟩ rfl rfl,
    ref_tap X W Bq hq b n 0 1 (by omega) (by omega) c ⟨n.val / 32, by omega⟩ ⟨1 + n.val % 32, by omega⟩ rfl (Nat.add_comm _ _),
    ref_tap X W Bq hq b n 0 2 (by omega) (by omega) c ⟨n.val / 32, by omega⟩ ⟨2 + n.val % 32, by omega⟩ rfl (Nat.add_comm _ _),
    ref_tap X W Bq hq b n 1 0 (by omega) (by omega) c ⟨1 + n.val / 32, by omega⟩ ⟨n.val % 32, by omega⟩ (Nat.add_comm _ _) rfl,
    ref_tap X W Bq hq b n 1 1 (by omega) (by omega) c ⟨1 + n.val / 32, by omega⟩ ⟨1 + n.val % 32, by omega⟩ (Nat.add_comm _ _) (Nat.add_comm _ _),
    ref_tap X W Bq hq b n 1 2 (by omega) (by omega) c ⟨1 + n.val / 32, by omega⟩ ⟨2 + n.val % 32, by omega⟩ (Nat.add_comm _ _) (Nat.add_comm _ _),
    ref_tap X W Bq hq b n 2 0 (by omega) (by omega) c ⟨2 + n.val / 32, by omega⟩ ⟨n.val % 32, by omega⟩ (Nat.add_comm _ _) rfl,
    ref_tap X W Bq hq b n 2 1 (by omega) (by omega) c ⟨2 + n.val / 32, by omega⟩ ⟨1 + n.val % 32, by omega⟩ (Nat.add_comm _ _) (Nat.add_comm _ _),
    ref_tap X W Bq hq b n 2 2 (by omega) (by omega) c ⟨2 + n.val / 32, by omega⟩ ⟨2 + n.val % 32, by omega⟩ (Nat.add_comm _ _) (Nat.add_comm _ _)]
  rfl

/-- The reference's output. -/
theorem ref_output (hq : ∀ c, Bq (ix1 c) = 0) (hp : ∀ c, Bp (ix1 c) = 0) (hl : ∀ c, Bl (ix1 c) = 0)
    (ha : ∀ b h n k, val_main_v27 (F := Ideal) X P W Bq (ix4 b h n k) = attn X P W b h n k)
    (b : Fin 4) (n : Fin 1024) (e : Fin 384) :
    val_main_v106 (F := Ideal) X P W Bq Wp Bp L Bl (ix3 b n e) = output X P W Wp L b n e := by
  pointwise [val_main_v106, val_main_v105, val_main_v104, val_main_v103, val_main_v102, val_main_v101, val_main_v100,
    val_main_v99, val_main_v98, val_main_v30, val_main_v29, val_main_v28]
  simp only [hp, hl, add_zero, ref_conv X W Bq L hq, ha, ref_value X W Bq hq]
  rfl

end Cert.Proof

end
-- ==== Proof.Real.lean ====
/- What the precondition says, entry by entry, and that under it the reference's weights are the kernel's. -/
module

public import proofs.«01_k».proof.Proof.Ref
public import proofs.«01_k».proof.Proof.Soft
public import proofs.«01_k».proof.Proof.Consts
public import proofs.«01_k».proof.Defs

@[expose] public section

set_option maxRecDepth 16384

noncomputable section

namespace Cert.Proof

open Idealize.ShloMosaic Idealize.SL.Sem

/-- An entry whose magnitude is under plus infinity is a real number. -/
theorem real_of_mask (x : EReal)
    (h : BitVec.ofBool (decide (FloatOps.absf (F := Ideal) (φ := .f32) x < Ideal.ofBits .f32 0x7F800000#32)) = 1#1) :
    ∃ r : ℝ, x = (r : EReal) := by
  rw [plus_infinity] at h
  induction x using EReal.rec with
  | coe r => exact ⟨r, rfl⟩
  | bot => exact absurd h (by simp [FloatOps.absf])
  | top => exact absurd h (by simp [FloatOps.absf])

/-- An array masked as finite is an array of real numbers. -/
theorem real_of_finite {s d : Shape} (x : FVec Ideal s .f32) (dims : Fin d.rank → Fin s.rank) (hd : _)
    (h : cmpf .olt (Host.absf x) (broadcastInDim s dims hd (constant d .f32 0x7F800000#32)) = fun _ => 1#1) :
    ∃ r : s.Idx → ℝ, x = fun i => (r i : EReal) := by
  have e : ∀ i, ∃ r : ℝ, x i = (r : EReal) := fun i => real_of_mask (x i) (congrFun h i)
  choose r hr using e
  exact ⟨r, funext hr⟩

/-- An array masked as equal to zero is zero. -/
theorem zero_of_mask {s d : Shape} (x : FVec Ideal s .f32) (dims : Fin d.rank → Fin s.rank) (hd : _)
    (h : cmpf .oeq x (broadcastInDim s dims hd (constant d .f32 0x00000000#32)) = fun _ => 1#1) (i : s.Idx) :
    x i = 0 := by
  have e : BitVec.ofBool (decide (x i = Ideal.ofBits .f32 0x00000000#32)) = 1#1 := congrFun h i
  have z : Ideal.ofBits .f32 0x00000000#32 = 0 := by simp [Ideal.ofBits, Ideal.ieee]
  rw [z] at e
  by_contra hn
  simp [hn] at e

/-- A projection of real positions on a real column is real. -/
theorem proj_real (X : (⟨4, ![4, 32, 32, 384]⟩ : Shape).Idx → ℝ) (W : FVec Ideal ⟨2, ![384, 1152]⟩ .f32)
    (w : Fin 384 → ℝ) (b : Fin 4) (n : Fin 1024) (c : Fin 1152) (hw : ∀ k, W (ix2 k c) = (w k : EReal)) :
    proj (fun i => (X i : EReal)) W b n c =
      ((∑ k : Fin 384, X (ix4 b ⟨n.val / 32, by omega⟩ ⟨n.val % 32, by omega⟩ k) * w k : ℝ) : EReal) := by
  rw [proj, ← sum_real]
  exact Finset.sum_congr rfl fun k _ => by rw [hw, EReal.coe_mul]

open Cert.ReferenceIdeal Cert.ReferenceIdeal.Read in
/-- Where the pictures, the prior weights and the columns of queries and keys are real and there is no bias, the
    reference's weights are `attn`. -/
theorem ref_attn (X : S4x32x32x384.Idx → ℝ) (P : S4x6x1024x1024.Idx → ℝ) (W : FVec Ideal S384x1152 .f32)
    (w : Fin 384 → Fin 768 → ℝ) (hw : ∀ k (c : Fin 768), W (ix2 k ⟨c.val, by omega⟩) = (w k c : EReal))
    (Bq : FVec Ideal S1152 .f32) (hq : ∀ c, Bq (ix1 c) = 0) (b : Fin 4) (h : Fin 6) (n k : Fin 1024) :
    val_main_v27 (F := Ideal) (fun i => (X i : EReal)) (fun i => (P i : EReal)) W Bq (ix4 b h n k) =
      attn (fun i => (X i : EReal)) (fun i => (P i : EReal)) W b h n k := by
  let q : Fin 1024 → Fin 64 → ℝ := fun n d => ∑ k : Fin 384,
    X (ix4 b ⟨n.val / 32, by omega⟩ ⟨n.val % 32, by omega⟩ k) * w k ⟨h.val * 64 + d.val, by omega⟩
  let r : Fin 1024 → Fin 64 → ℝ := fun n d => ∑ k : Fin 384,
    X (ix4 b ⟨n.val / 32, by omega⟩ ⟨n.val % 32, by omega⟩ k) * w k ⟨384 + (h.val * 64 + d.val), by omega⟩
  have eq : query (fun i => (X i : EReal)) W b h = fun n d => (q n d : EReal) :=
    funext fun n => funext fun d => proj_real X W _ b n _ fun k => hw k ⟨h.val * 64 + d.val, by omega⟩
  have er : key (fun i => (X i : EReal)) W b h = fun n d => (r n d : EReal) :=
    funext fun n => funext fun d => proj_real X W _ b n _ fun k => hw k ⟨384 + (h.val * 64 + d.val), by omega⟩
  have score : ∀ l, val_main_v16 (F := Ideal) (fun i => (X i : EReal)) (fun i => (P i : EReal)) W
      Bq (ix4 b h n l) = (((∑ d : Fin 64, q n d * r l d) * (1 / 8) * P (ix4 b h n l) : ℝ) : EReal) := fun l => by
    rw [ref_score _ _ _ _ hq, eq, er, EReal.coe_mul, EReal.coe_mul, ← sum_real]
    simp only [EReal.coe_mul]
  obtain ⟨M, hM⟩ := fold_max_real (n := 1023) fun l => (∑ d : Fin 64, q n d * r l d) * (1 / 8) * P (ix4 b h n l)
  rw [ref_weights, ref_max]
  simp only [score]
  beta_reduce at hM
  rw [hM, attn, eq, er]
  exact (weights_eq_softmax q r (fun n l => P (ix4 b h n l)) n k M).symm

end Cert.Proof

end
-- ==== Proof.Pay.lean ====
/- What one grid step computes, read at an index: the weights of its two heads, and the product of its 128 channels with
   their rows of the output weights. -/
module

public import proofs.«01_k».proof.Proof.Spec
public import proofs.«01_k».proof.Proof.Consts
public import proofs.«01_k».proof.Proof.Gen.KernelIdeal.Skeleton
public import Idealize.ShloMosaic.Lib.Pointwise
import Mathlib.Tactic.NormNum

@[expose] public section

set_option maxRecDepth 16384

noncomputable section

namespace Cert.Proof

open Idealize.ShloMosaic Idealize.SL.Sem
open Cert.KernelIdeal Cert.KernelIdeal.Gen

/-- A block of positions times a block of columns, at an index. -/
def blockProj (x : FVec Ideal S1x1024x384 .f32) (w : FVec Ideal S384x128 .f32) (n : Fin 1024) (c : Fin 128) : EReal :=
  ∑ k : Fin 384, x (ix3 0 n k) * w (ix2 k c)

/-- The values of a step are its projection. -/
theorem pay3_at (x : FVec Ideal S1x1024x384 .f32) (w : FVec Ideal S384x128 .f32) (n : Fin 1024) (c : Fin 128) :
    k0_pay3 (F := Ideal) x w (ix2 n c) = blockProj x w n c := by
  pointwise [k0_pay3, k0_pay2]
  rfl

/-- The queries of a step are its projection, scaled. -/
theorem pay4_at (x : FVec Ideal S1x1024x384 .f32) (w : FVec Ideal S384x128 .f32) (n : Fin 1024) (c : Fin 128) :
    k0_pay4 (F := Ideal) x w (ix2 n c) = blockProj x w n c * (scale : EReal) := by
  pointwise [k0_pay4, k0_pay2]
  rw [named_scale]
  rfl

/-- The keys of a step are its projection. -/
theorem pay5_at (x : FVec Ideal S1x1024x384 .f32) (w : FVec Ideal S384x128 .f32) (n : Fin 1024) (c : Fin 128) :
    k0_pay5 (F := Ideal) x w (ix2 n c) = blockProj x w n c := by
  pointwise [k0_pay5, k0_pay2]
  rfl

/-- The weights of a step's first head. -/
theorem pay7_at (x : FVec Ideal S1x1024x384 .f32) (w w' : FVec Ideal S384x128 .f32)
    (p : FVec Ideal S1x1x1024x1024 .f32) (n k : Fin 1024) :
    k0_pay7 (F := Ideal) x w w' p (ix2 n k) =
      weights (fun n d => blockProj x w n ⟨d.val, by omega⟩) (fun n d => blockProj x w' n ⟨d.val, by omega⟩)
        (fun n k => p (ix4 0 0 n k)) n k := by
  pointwise [k0_pay7]
  simp only [pay4_at, pay5_at]
  rfl

/-- The weights of a step's second head. -/
theorem pay9_at (x : FVec Ideal S1x1024x384 .f32) (w w' : FVec Ideal S384x128 .f32)
    (p : FVec Ideal S1x1x1024x1024 .f32) (n k : Fin 1024) :
    k0_pay9 (F := Ideal) (k0_pay4 x w) (k0_pay5 x w') p (ix2 n k) =
      weights (fun n d => blockProj x w n ⟨64 + d.val, by omega⟩) (fun n d => blockProj x w' n ⟨64 + d.val, by omega⟩)
        (fun n k => p (ix4 0 0 n k)) n k := by
  pointwise [k0_pay9]
  simp only [pay4_at, pay5_at]
  rfl

/-- The column of a position within its row of 32, as the kernel works it out. -/
theorem pay16_at (n : Fin 1024) : k0_pay16 32#32 k0_pay14 k0_pay15 (ix2 n 0) = BitVec.ofNat 32 (n.val % 32) := by
  pointwise [k0_pay16, k0_pay14, k0_pay15]
  revert n
  decide +kernel

/-- A choice on whether that column is a given one. -/
theorem select_column {α : Type} (n : Fin 1024) (j : Fin 32) (a b : α) :
    Scalar.select (IntOp.cmpi .eq (k0_pay16 32#32 k0_pay14 k0_pay15 (ix2 n 0)) (BitVec.ofNat 32 j.val)) a b =
      if n.val % 32 = j.val then a else b := by
  rw [pay16_at]
  have h : ∀ i j : Fin 32, IntOp.cmpi .eq (BitVec.ofNat 32 i.val) (BitVec.ofNat 32 j.val) =
      if i.val = j.val then 1#1 else 0#1 := by decide +kernel
  have e := h ⟨n.val % 32, by omega⟩ j
  dsimp only at e
  rw [e]
  by_cases hj : n.val % 32 = j.val
  · rw [if_pos hj, if_pos hj]; rfl
  · rw [if_neg hj, if_neg hj]; rfl

/-- The unshifted tap is the picture. -/
theorem tap_mid (f : Fin 1024 → EReal) (n : Fin 1024) : tap f 1 1 n = f n := by
  unfold tap
  rw [dif_pos (by omega)]
  exact congrArg f (Fin.ext (by show (n.val / 32 + 1 - 1) * 32 + (n.val % 32 + 1 - 1) = n.val; omega))

/-- A tap one row on: 32 positions on, zero in the last row. -/
theorem tap_down (f : Fin 1024 → EReal) (j : ℕ) (n : Fin 1024) :
    (if h : n.val < 992 then tap f 1 j ⟨32 + n.val, by omega⟩ else 0) = tap f 2 j n := by
  unfold tap
  dsimp only
  split_ifs <;> first
    | rfl
    | omega
    | exact congrArg f (Fin.ext (by dsimp only; omega))

/-- A tap one row back: 32 positions back, zero in the first row. -/
theorem tap_up (f : Fin 1024 → EReal) (j : ℕ) (n : Fin 1024) :
    (if h : n.val < 32 then 0 else tap f 1 j ⟨n.val - 32, by omega⟩) = tap f 0 j n := by
  unfold tap
  dsimp only
  split_ifs <;> first
    | rfl
    | omega
    | exact congrArg f (Fin.ext (by dsimp only; omega))

/-- The values one column on. -/
theorem pay17_at (v : FVec Ideal S1024x128 .f32) (n : Fin 1024) (c : Fin 128) :
    k0_pay17 v (k0_pay13 (F := Ideal)) 32#32 k0_pay14 k0_pay15 (ix2 n c) = tap (fun k => v (ix2 k c)) 1 2 n := by
  pointwise [k0_pay17, k0_pay13]
  refine (select_column n 31 _ _).trans ?_
  unfold tap
  split_ifs <;> first
    | rfl
    | omega
    | exact congrArg (fun k => v (ix2 k c)) (Fin.ext (by dsimp only; omega))

/-- The values one column back, chosen against zero. -/
theorem column_back (v : FVec Ideal S1024x128 .f32) (n : Fin 1024) (c : Fin 128) :
    Scalar.select (IntOp.cmpi .eq (k0_pay16 32#32 k0_pay14 k0_pay15 (ix2 n 0)) 0#32) 0
      (if h : n.val < 1 then 0 else v (ix2 ⟨n.val - 1, by omega⟩ c)) = tap (fun k => v (ix2 k c)) 1 0 n := by
  refine (select_column n 0 _ _).trans ?_
  unfold tap
  split_ifs <;> first
    | rfl
    | omega
    | exact congrArg (fun k => v (ix2 k c)) (Fin.ext (by dsimp only; omega))

/-- The three taps of the column before. -/
theorem pay19_at (v : FVec Ideal S1024x128 .f32) (l : FVec Ideal S9x128 .f32) (n : Fin 1024) (c : Fin 128) :
    k0_pay19 v l (k0_pay13 (F := Ideal)) 32#32 k0_pay14 k0_pay15 (ix2 n c) =
      tap (fun k => v (ix2 k c)) 2 0 n * l (ix2 6 c) + tap (fun k => v (ix2 k c)) 1 0 n * l (ix2 3 c) +
        tap (fun k => v (ix2 k c)) 0 0 n * l (ix2 0 c) := by
  rw [← tap_down, ← tap_up]
  simp only [← column_back]
  pointwise [k0_pay19, k0_pay18, k0_pay13]

/-- The product of a step: its mixed values and their convolution, times its rows of the output weights. -/
theorem pay21_at (v o : FVec Ideal S1024x128 .f32) (l : FVec Ideal S9x128 .f32) (w : FVec Ideal S128x384 .f32)
    (n : Fin 1024) (e : Fin 384) :
    k0_pay21 v o l (k0_pay17 v (k0_pay13 (F := Ideal)) 32#32 k0_pay14 k0_pay15) (k0_pay18 (F := Ideal))
        (k0_pay19 v l (k0_pay13 (F := Ideal)) 32#32 k0_pay14 k0_pay15) (k0_pay20 v) w (ix2 n e) =
      ∑ c : Fin 128, (o (ix2 n c) + conv (fun k => v (ix2 k c)) (fun i => l (ix2 i c)) n) * w (ix2 c e) := by
  pointwise [k0_pay21, k0_pay20, k0_pay18]
  refine Finset.sum_congr rfl fun c _ => ?_
  have d := tap_down (fun k => v (ix2 k c)) 1 n
  have u := tap_up (fun k => v (ix2 k c)) 1 n
  simp only [tap_mid] at d u
  simp only [pay17_at, pay19_at]
  rw [d, u, tap_down (fun k => v (ix2 k c)) 2 n, tap_up (fun k => v (ix2 k c)) 2 n,
    ← tap_mid (fun k => v (ix2 k c)) n]
  have order : ∀ a b c d e f g h i : EReal, a + b + c + d + e + f + g + h + i = c + f + i + b + e + h + a + d + g := by
    intros
    ac_rfl
  exact congrArg (fun z => (o (ix2 n c) + z) * w (ix2 c e)) (order _ _ _ _ _ _ _ _ _)

/-- The mixed values of a step: the weights of the channel's head against its values. -/
theorem pay11_at (x : FVec Ideal S1x1024x384 .f32) (w w' w'' : FVec Ideal S384x128 .f32)
    (p p' : FVec Ideal S1x1x1024x1024 .f32) (n : Fin 1024) (c : Fin 128) :
    k0_pay11 (F := Ideal) (k0_pay3 x w'') (k0_pay4 x w) (k0_pay5 x w') (k0_pay6 x w'') (k0_pay7 x w w' p) p'
        (ix2 n c) =
      ∑ k : Fin 1024, (if c.val < 64 then k0_pay7 (F := Ideal) x w w' p (ix2 n k)
        else k0_pay9 (F := Ideal) (k0_pay4 x w) (k0_pay5 x w') p' (ix2 n k)) * blockProj x w'' k c := by
  pointwise [k0_pay11, k0_pay6]
  by_cases h : c.val < 64
  · rw [dif_pos h]
    refine Finset.sum_congr rfl fun k _ => ?_
    rw [if_pos h, pay3_at]
  · rw [dif_neg h]
    refine Finset.sum_congr rfl fun k _ => ?_
    rw [if_neg h, pay3_at]
    exact congrArg (fun i => _ * blockProj x w'' k i) (Fin.ext (by show 64 + (c.val - 64) = c.val; omega))

end Cert.Proof

end
-- ==== Proof.Step.lean ====
/- What a grid step reads of the argument arrays: step `t` takes picture `t / 3` and the pair of heads `t % 3`. -/
module

public import proofs.«01_k».proof.Proof.Spec
public import proofs.«01_k».proof.Proof.Pay
public import proofs.«01_k».proof.Proof.Gen.KernelIdeal.Value
public import Idealize.ShloMosaic.Lib.Pointwise
public import Idealize.ShloMosaic.Lib.Pipeline.ValueKit
public import Idealize.ShloMosaic.Lib.Claim
import Mathlib.Tactic.NormNum

@[expose] public section

set_option maxRecDepth 16384

noncomputable section

namespace Cert.Proof

open Idealize.ShloMosaic Idealize.ShloMosaic.TcCoe Idealize.SL.Sem
open Cert.KernelIdeal Cert.KernelIdeal.Gen

variable (m : (ℓ : Loc nD τ sig) → Buf (Elt Ideal) ℓ) (c : Dev nD) (t : Fin cfg0.N)

/-- The pictures. -/
abbrev argX : FVec Ideal ⟨4, ![4, 32, 32, 384]⟩ .f32 := m ((c : Thread nD τ).loc main_arg0)

/-- The prior weights. -/
abbrev argP : FVec Ideal ⟨4, ![4, 6, 1024, 1024]⟩ .f32 := m ((c : Thread nD τ).loc main_arg1)

/-- The weights of queries, keys and values. -/
abbrev argW : FVec Ideal ⟨2, ![384, 1152]⟩ .f32 := m ((c : Thread nD τ).loc main_arg2)

/-- The output weights. -/
abbrev argO : FVec Ideal ⟨2, ![384, 384]⟩ .f32 := m ((c : Thread nD τ).loc main_arg4)

/-- The taps of the convolution. -/
abbrev argL : FVec Ideal ⟨4, ![3, 3, 1, 384]⟩ .f32 := m ((c : Thread nD τ).loc main_arg6)

/-- The block each window is at, at each grid step. -/
theorem idx : ∀ t : Fin cfg0.N, win0_0.index t = ![t.val / 3, 0, 0] ∧ win0_1.index t = ![t.val / 3, t.val % 3, 0, 0] ∧
    win0_2.index t = ![0, 0] ∧ win0_3.index t = ![0, 0] ∧ win0_4.index t = ![0, 0] ∧
    win0_5.index t = ![t.val / 3, t.val % 3, 0, 0] ∧ win0_6.index t = ![t.val / 3, 0, 0] ∧
    (grid0.coords t 1).val = t.val % 3 :=
  (by decide +kernel : ∀ t : Fin grid0.N, _)

/-- The picture of a step. -/
def pic : Fin 4 := ⟨t.val / 3, by have h : t.val < 12 := t.isLt; omega⟩

/-- The pair of heads of a step. -/
def pair : Fin 3 := ⟨t.val % 3, by omega⟩

/-- The block of pictures is the step's picture. -/
theorem read_x (n : Fin 1024) (k : Fin 384) :
    (show FVec Ideal S1x1024x384 .f32 from iblk m c 0 t) (ix3 0 n k) =
      argX m c (ix4 (pic t) ⟨n.val / 32, by omega⟩ ⟨n.val % 32, by omega⟩ k) := by
  show (_ : EReal) = _
  unfold pic
  blk_point [iblk, idx t]

/-- The block of prior weights is the step's pair of heads. -/
theorem read_p (j : Fin 2) (n k : Fin 1024) :
    (show FVec Ideal S1x2x1024x1024 .f32 from iblk m c 1 t) (ix4 0 j n k) =
      argP m c (ix4 (pic t) ⟨2 * (pair t).val + j.val, by have := (pair t).isLt; omega⟩ n k) := by
  show (_ : EReal) = _
  unfold pic pair
  blk_point [iblk, V, idx t]

/-- The block of weights is all of them. -/
theorem read_w (k : Fin 384) (j : Fin 1152) :
    (show FVec Ideal S384x1152 .f32 from iblk m c 2 t) (ix2 k j) = argW m c (ix2 k j) := by
  show (_ : EReal) = _
  blk_point [iblk, V, idx t]

/-- The block of output weights is all of them. -/
theorem read_o (k j : Fin 384) :
    (show FVec Ideal S384x384 .f32 from iblk m c 3 t) (ix2 k j) = argO m c (ix2 k j) := by
  show (_ : EReal) = _
  blk_point [iblk, V, idx t]

/-- The block of taps is all of them, in rows of three. -/
theorem read_l (k : Fin 9) (j : Fin 384) :
    (show FVec Ideal S9x384 .f32 from iblk m c 4 t) (ix2 k j) =
      argL m c (ix4 ⟨k.val / 3, by omega⟩ ⟨k.val % 3, by omega⟩ 0 j) := by
  show (_ : EReal) = _
  blk_point [iblk, idx t]

/-- Where a step's columns begin. -/
theorem off1 : k0_off1 (grid0.coords t) = ![0, (pair t).val * 128] := by
  rw [k0_off1_eq, (idx t).2.2.2.2.2.2.2, Nat.mul_comm]
  rfl

/-- Where a step's columns of keys begin. -/
theorem off2 : k0_off2 (grid0.coords t) 384#32 = ![0, 384 + (pair t).val * 128] := by
  rw [show k0_off2 (grid0.coords t) 384#32 = _ from k0_off2_eq _ 0, (idx t).2.2.2.2.2.2.2]
  exact congrArg (fun z => ![0, z]) (by show 384 * 0 + 128 * (t.val % 3) + 384 = 384 + t.val % 3 * 128; omega)

/-- Where a step's columns of values begin. -/
theorem off2' : k0_off2 (grid0.coords t) 768#32 = ![0, 768 + (pair t).val * 128] := by
  rw [show k0_off2 (grid0.coords t) 768#32 = _ from k0_off2_eq _ 1, (idx t).2.2.2.2.2.2.2]
  exact congrArg (fun z => ![0, z]) (by show 384 * 1 + 128 * (t.val % 3) + 384 = 768 + t.val % 3 * 128; omega)

/-- Where a step's columns of taps begin. -/
theorem off3 : k0_off3 (grid0.coords t) = ![0, (pair t).val * 128] := by
  rw [k0_off3_eq, (idx t).2.2.2.2.2.2.2, Nat.mul_comm]
  rfl

/-- Where a step's rows of output weights begin. -/
theorem off4 : k0_off4 (grid0.coords t) = ![(pair t).val * 128, 0] := by
  rw [k0_off4_eq, (idx t).2.2.2.2.2.2.2, Nat.mul_comm]
  rfl

/-- The step's columns of queries. -/
theorem read_q (h : _) (k : Fin 384) (j : Fin 128) :
    View.ld (Val := Elt Ideal) (iblk m c 2 t) (Rect.unit (s := S384x1152) (k0_off1 (grid0.coords t)) ![384, 128] h) (ix2 k j) =
      argW m c (ix2 k ⟨(pair t).val * 128 + j.val, by have := (pair t).isLt; omega⟩) := by
  revert h
  rw [off1]
  intro h
  show (_ : EReal) = _
  pointwise
  exact read_w m c t _ _

/-- The step's columns of keys. -/
theorem read_k (h : _) (k : Fin 384) (j : Fin 128) :
    View.ld (Val := Elt Ideal) (iblk m c 2 t) (Rect.unit (s := S384x1152) (k0_off2 (grid0.coords t) 384#32) ![384, 128] h) (ix2 k j) =
      argW m c (ix2 k ⟨384 + (pair t).val * 128 + j.val, by have := (pair t).isLt; omega⟩) := by
  revert h
  rw [off2]
  intro h
  show (_ : EReal) = _
  pointwise
  exact read_w m c t _ _

/-- The step's columns of values. -/
theorem read_v (h : _) (k : Fin 384) (j : Fin 128) :
    View.ld (Val := Elt Ideal) (iblk m c 2 t) (Rect.unit (s := S384x1152) (k0_off2 (grid0.coords t) 768#32) ![384, 128] h) (ix2 k j) =
      argW m c (ix2 k ⟨768 + (pair t).val * 128 + j.val, by have := (pair t).isLt; omega⟩) := by
  revert h
  rw [off2']
  intro h
  show (_ : EReal) = _
  pointwise
  exact read_w m c t _ _

/-- The step's columns of taps. -/
theorem read_taps (h : _) (k : Fin 9) (j : Fin 128) :
    View.ld (Val := Elt Ideal) (iblk m c 4 t) (Rect.unit (s := S9x384) (k0_off3 (grid0.coords t)) ![9, 128] h) (ix2 k j) =
      argL m c (ix4 ⟨k.val / 3, by omega⟩ ⟨k.val % 3, by omega⟩ 0
        ⟨(pair t).val * 128 + j.val, by have := (pair t).isLt; omega⟩) := by
  revert h
  rw [off3]
  intro h
  show (_ : EReal) = _
  pointwise
  exact read_l m c t _ _

/-- The step's rows of output weights. -/
theorem read_rows (h : _) (k : Fin 128) (j : Fin 384) :
    View.ld (Val := Elt Ideal) (iblk m c 3 t) (Rect.unit (s := S384x384) (k0_off4 (grid0.coords t)) ![128, 384] h) (ix2 k j) =
      argO m c (ix2 ⟨(pair t).val * 128 + k.val, by have := (pair t).isLt; omega⟩ j) := by
  revert h
  rw [off4]
  intro h
  show (_ : EReal) = _
  pointwise
  exact read_o m c t _ _

/-- The prior weights of the step's first head. -/
theorem read_p0 (h : _) (n k : Fin 1024) :
    View.ld (Val := Elt Ideal) (iblk m c 1 t) (Rect.unit (s := S1x2x1024x1024) (![0, 0, 0, 0]) ![1, 1, 1024, 1024] h)
        (ix4 0 0 n k) =
      argP m c (ix4 (pic t) ⟨2 * (pair t).val + 0, by have := (pair t).isLt; omega⟩ n k) := by
  show (_ : EReal) = _
  pointwise
  exact read_p m c t 0 n k

/-- The prior weights of the step's second head. -/
theorem read_p1 (h : _) (n k : Fin 1024) :
    View.ld (Val := Elt Ideal) (iblk m c 1 t) (Rect.unit (s := S1x2x1024x1024) (![0, 1, 0, 0]) ![1, 1, 1024, 1024] h)
        (ix4 0 0 n k) =
      argP m c (ix4 (pic t) ⟨2 * (pair t).val + 1, by have := (pair t).isLt; omega⟩ n k) := by
  show (_ : EReal) = _
  pointwise
  exact read_p m c t 1 n k

section Blocks

variable {X : FVec Ideal ⟨4, ![4, 32, 32, 384]⟩ .f32} {P : FVec Ideal ⟨4, ![4, 6, 1024, 1024]⟩ .f32}
  {W : FVec Ideal ⟨2, ![384, 1152]⟩ .f32} {Wp : FVec Ideal ⟨2, ![384, 384]⟩ .f32}
  {L : FVec Ideal ⟨4, ![3, 3, 1, 384]⟩ .f32} {b : Fin 4} {j : Fin 3}
  {x : FVec Ideal S1x1024x384 .f32} {w w' w'' : FVec Ideal S384x128 .f32} {p p' : FVec Ideal S1x1x1024x1024 .f32}
  {l : FVec Ideal S9x128 .f32} {o : FVec Ideal S128x384 .f32}
  (hx : ∀ n k, x (ix3 0 n k) = X (ix4 b ⟨n.val / 32, by omega⟩ ⟨n.val % 32, by omega⟩ k))
  (hq : ∀ k c, w (ix2 k c) = W (ix2 k ⟨j.val * 128 + c.val, by omega⟩))
  (hk : ∀ k c, w' (ix2 k c) = W (ix2 k ⟨384 + j.val * 128 + c.val, by omega⟩))
  (hv : ∀ k c, w'' (ix2 k c) = W (ix2 k ⟨768 + j.val * 128 + c.val, by omega⟩))
  (hp : ∀ n k, p (ix4 0 0 n k) = P (ix4 b ⟨2 * j.val + 0, by omega⟩ n k))
  (hp' : ∀ n k, p' (ix4 0 0 n k) = P (ix4 b ⟨2 * j.val + 1, by omega⟩ n k))
  (hl : ∀ k c, l (ix2 k c) = L (ix4 ⟨k.val / 3, by omega⟩ ⟨k.val % 3, by omega⟩ 0 ⟨j.val * 128 + c.val, by omega⟩))
  (ho : ∀ k e, o (ix2 k e) = Wp (ix2 ⟨j.val * 128 + k.val, by omega⟩ e))

include hx in
/-- A step's projection is the projection on the columns it takes. -/
theorem block_proj (w : FVec Ideal S384x128 .f32) (n : Fin 1024) (c : Fin 128) (c' : Fin 1152)
    (hw : ∀ k, w (ix2 k c) = W (ix2 k c')) : blockProj x w n c = proj X W b n c' := by
  simp only [blockProj, proj, hx, hw]

include hx hq hk hp in
/-- The first head of a step has the weights of the even head of its pair. -/
theorem first_head (n k : Fin 1024) :
    k0_pay7 (F := Ideal) x w w' p (ix2 n k) = attn X P W b ⟨2 * j.val + 0, by omega⟩ n k := by
  rw [pay7_at, attn]
  have e1 : (fun n (d : Fin 64) => blockProj x w n ⟨d.val, by omega⟩) = query X W b ⟨2 * j.val + 0, by omega⟩ := by
    funext n d
    refine block_proj hx w n _ _ fun k => (hq k _).trans (congrArg (fun z => W (ix2 k z)) (Fin.ext ?_))
    show j.val * 128 + d.val = (2 * j.val + 0) * 64 + d.val
    omega
  have e2 : (fun n (d : Fin 64) => blockProj x w' n ⟨d.val, by omega⟩) = key X W b ⟨2 * j.val + 0, by omega⟩ := by
    funext n d
    refine block_proj hx w' n _ _ fun k => (hk k _).trans (congrArg (fun z => W (ix2 k z)) (Fin.ext ?_))
    show 384 + j.val * 128 + d.val = 384 + ((2 * j.val + 0) * 64 + d.val)
    omega
  rw [e1, e2]
  simp only [hp]

include hx hq hk hp' in
/-- The second head of a step has the weights of the odd head of its pair. -/
theorem second_head (n k : Fin 1024) :
    k0_pay9 (F := Ideal) (k0_pay4 x w) (k0_pay5 x w') p' (ix2 n k) = attn X P W b ⟨2 * j.val + 1, by omega⟩ n k := by
  rw [pay9_at, attn]
  have e1 : (fun n (d : Fin 64) => blockProj x w n ⟨64 + d.val, by omega⟩) = query X W b ⟨2 * j.val + 1, by omega⟩ := by
    funext n d
    refine block_proj hx w n _ _ fun k => (hq k _).trans (congrArg (fun z => W (ix2 k z)) (Fin.ext ?_))
    show j.val * 128 + (64 + d.val) = (2 * j.val + 1) * 64 + d.val
    omega
  have e2 : (fun n (d : Fin 64) => blockProj x w' n ⟨64 + d.val, by omega⟩) = key X W b ⟨2 * j.val + 1, by omega⟩ := by
    funext n d
    refine block_proj hx w' n _ _ fun k => (hk k _).trans (congrArg (fun z => W (ix2 k z)) (Fin.ext ?_))
    show 384 + j.val * 128 + (64 + d.val) = 384 + ((2 * j.val + 1) * 64 + d.val)
    omega
  rw [e1, e2]
  simp only [hp']

include hx hq hk hv hp hp' hl ho in
/-- The product of a step is its part of the sum over all channels. -/
theorem step_product (n : Fin 1024) (e : Fin 384) :
    k0_pay21 (k0_pay3 x w'')
        (k0_pay11 (k0_pay3 x w'') (k0_pay4 x w) (k0_pay5 x w') (k0_pay6 x w'') (k0_pay7 x w w' p) p') l
        (k0_pay17 (k0_pay3 x w'') (k0_pay13 (F := Ideal)) 32#32 k0_pay14 k0_pay15) (k0_pay18 (F := Ideal))
        (k0_pay19 (k0_pay3 x w'') l (k0_pay13 (F := Ideal)) 32#32 k0_pay14 k0_pay15) (k0_pay20 (k0_pay3 x w'')) o
        (ix2 n e) =
      ∑ c : Fin 128, mixed X P W L b n ⟨j.val * 128 + c.val, by omega⟩ *
        Wp (ix2 ⟨j.val * 128 + c.val, by omega⟩ e) := by
  rw [pay21_at]
  refine Finset.sum_congr rfl fun c _ => ?_
  have e1 : ∀ k, blockProj x w'' k c = value X W b k ⟨j.val * 128 + c.val, by omega⟩ := fun k =>
    block_proj hx w'' k _ _ fun i => (hv i c).trans (congrArg (fun z => W (ix2 i z)) (Fin.ext (Nat.add_assoc _ _ _)))
  rw [ho, pay11_at, mixed]
  simp only [pay3_at, e1, hl, first_head hx hq hk hp, second_head hx hq hk hp']
  refine congrArg (fun z => (z + _) * _) (Finset.sum_congr rfl fun k _ => congrArg (· * _) ?_)
  split_ifs with hc
  · refine congrArg (fun h => attn X P W b h n k) (Fin.ext ?_)
    show 2 * j.val + 0 = (j.val * 128 + c.val) / 64
    omega
  · refine congrArg (fun h => attn X P W b h n k) (Fin.ext ?_)
    show 2 * j.val + 1 = (j.val * 128 + c.val) / 64
    omega

end Blocks

/-- The taps are read as they lie. -/
theorem pay12_at (l : FVec Ideal S9x128 .f32) (k : Fin 9) (c : Fin 128) :
    k0_pay12 (F := Ideal) l (ix2 k c) = l (ix2 k c) := by
  pointwise [k0_pay12]

/-- What the first step of a picture stores is its product. -/
theorem pay22_at (v o : FVec Ideal S1024x128 .f32) (l : FVec Ideal S9x128 .f32) (up : FVec Ideal S1024x128 .f32)
    (z : FVec Ideal S32x128 .f32) (s : FVec Ideal S1024x128 .f32) (v' : FVec Ideal S992x128 .f32)
    (w : FVec Ideal S128x384 .f32) (n : Fin 1024) (e : Fin 384) :
    k0_pay22 v o l up z s v' w (ix3 0 n e) = k0_pay21 v o l up z s v' w (ix2 n e) := by
  unfold k0_pay22
  generalize k0_pay21 v o l up z s v' w = r
  pointwise

/-- What a later step of a picture stores is its product added to what is there. -/
theorem pay1_at (r : FVec Ideal S1024x384 .f32) (old : FVec Ideal S1x1024x384 .f32) (n : Fin 1024) (e : Fin 384) :
    k0_pay1 (F := Ideal) r old (ix3 0 n e) = old (ix3 0 n e) + r (ix2 n e) := by
  pointwise [k0_pay1]

/-- One pair of heads' part of the output. -/
def part (b : Fin 4) (j : Fin 3) (n : Fin 1024) (e : Fin 384) : EReal :=
  ∑ k : Fin 128, mixed (argX m c) (argP m c) (argW m c) (argL m c) b n ⟨j.val * 128 + k.val, by omega⟩ *
    argO m c (ix2 ⟨j.val * 128 + k.val, by omega⟩ e)

/-- After the first step of a picture, its output block is that step's part. -/
theorem after_first (h0 : t.val % 3 = 0) (n : Fin 1024) (e : Fin 384) :
    (outsAt0 m c t.val t.isLt).2 (ix3 0 n e) = part m c (pic t) (pair t) n e := by
  rw [outsAt0_A m c t h0 (by omega)]
  frame_out
  rw [pay22_at]
  exact step_product (read_x m c t) (read_q m c t _) (read_k m c t _) (read_v m c t _) (read_p0 m c t _)
    (read_p1 m c t _) (fun k j => (pay12_at _ k j).trans (read_taps m c t _ k j)) (read_rows m c t _) n e

/-- After a later step of a picture, its output block is what it was with that step's part added. -/
theorem after_later (h0 : ¬t.val % 3 = 0) (n : Fin 1024) (e : Fin 384) :
    (outsAt0 m c t.val t.isLt).2 (ix3 0 n e) =
      (outsAt0 m c (t.val - 1) (Nat.lt_of_le_of_lt (Nat.sub_le _ _) t.isLt)).2 (ix3 0 n e) +
        part m c (pic t) (pair t) n e := by
  rw [outsAt0_B m c t h0 (by omega)]
  frame_out
  rw [pay1_at]
  exact congrArg (_ + ·) (step_product (read_x m c t) (read_q m c t _) (read_k m c t _) (read_v m c t _)
    (read_p0 m c t _) (read_p1 m c t _) (fun k j => (pay12_at _ k j).trans (read_taps m c t _ k j))
    (read_rows m c t _) n e)

/-- After the last step of a picture, its output block is the projected output. -/
theorem after_last (h : t.val % 3 = 2) (n : Fin 1024) (e : Fin 384) :
    (outsAt0 m c t.val t.isLt).2 (ix3 0 n e) =
      output (argX m c) (argP m c) (argW m c) (argO m c) (argL m c) (pic t) n e := by
  have l1 : t.val - 1 < cfg0.N := Nat.lt_of_le_of_lt (Nat.sub_le _ _) t.isLt
  have l2 : t.val - 1 - 1 < cfg0.N := Nat.lt_of_le_of_lt (Nat.sub_le _ _) l1
  have e2 := after_later m c t (by omega) n e
  have e1 := after_later m c ⟨t.val - 1, l1⟩ (by show ¬(t.val - 1) % 3 = 0; omega) n e
  have e0 := after_first m c ⟨t.val - 1 - 1, l2⟩ (by show (t.val - 1 - 1) % 3 = 0; omega) n e
  have p1 : pic ⟨t.val - 1, l1⟩ = pic t := Fin.ext (by show (t.val - 1) / 3 = t.val / 3; omega)
  have p0 : pic ⟨t.val - 1 - 1, l2⟩ = pic t := Fin.ext (by show (t.val - 1 - 1) / 3 = t.val / 3; omega)
  have j2 : pair t = 2 := Fin.ext h
  have j1 : pair ⟨t.val - 1, l1⟩ = 1 := Fin.ext (by show (t.val - 1) % 3 = 1; omega)
  have j0 : pair ⟨t.val - 1 - 1, l2⟩ = 0 := Fin.ext (by show (t.val - 1 - 1) % 3 = 0; omega)
  rw [j2] at e2
  rw [p1, j1] at e1
  rw [p0, j0] at e0
  refine e2.trans ?_
  refine (congrArg (· + _) (e1.trans (congrArg (· + _) e0))).trans ?_
  refine Eq.trans ?_ (Fin.sum_univ_tiles 3 128 rfl (fun k : Fin 384 =>
    mixed (argX m c) (argP m c) (argW m c) (argL m c) (pic t) n k * argO m c (ix2 k e))).symm
  rw [Fin.sum_univ_three]
  rfl

/-- The stored weights of a step's first head, at any index. -/
theorem pay8_at (a : FVec Ideal S1024x1024 .f32) (i : S1x1x1024x1024.Idx) (n k : Fin 1024) (h2 : n.val = (i 2).val)
    (h3 : k.val = (i 3).val) : k0_pay8 (F := Ideal) a i = a (ix2 n k) := by
  rw [eq_ix4 i, show i 2 = n from Fin.ext h2.symm, show i 3 = k from Fin.ext h3.symm]
  pointwise [k0_pay8]

/-- The stored weights of a step's second head, at any index. -/
theorem pay10_at (q k' : FVec Ideal S1024x128 .bf16) (p : FVec Ideal S1x1x1024x1024 .f32) (i : S1x1x1024x1024.Idx)
    (n k : Fin 1024) (h2 : n.val = (i 2).val) (h3 : k.val = (i 3).val) :
    k0_pay10 (F := Ideal) q k' p i = k0_pay9 q k' p (ix2 n k) :=
  pay8_at (k0_pay9 q k' p) i n k h2 h3

/-- After every step, its block of weights holds those of its pair of heads. -/
theorem weights_block (j : Fin 2) (n k : Fin 1024) :
    (outsAt0 m c t.val t.isLt).1 (ix4 0 j n k) =
      attn (argX m c) (argP m c) (argW m c) (pic t) ⟨2 * (pair t).val + j.val, by have := (pair t).isLt; omega⟩ n k := by
  by_cases h0 : t.val % 3 = 0
  · rw [outsAt0_A m c t h0 (by omega)]
    frame_out
    canon_tiles
    · have e : j = 1 := Fin.ext (by have : j.val = 1 + _ := h1; show j.val = 1; omega)
      subst e
      rw [pay10_at _ _ _ _ n k h2 h3]
      exact second_head (read_x m c t) (read_q m c t _) (read_k m c t _) (read_p1 m c t _) n k
    · have e : j = 0 := Fin.ext (by have : j.val = _ := h1; show j.val = 0; omega)
      subst e
      rw [pay8_at _ _ n k h2 h3]
      exact first_head (read_x m c t) (read_q m c t _) (read_k m c t _) (read_p0 m c t _) n k
  · rw [outsAt0_B m c t h0 (by omega)]
    frame_out
    canon_tiles
    · have e : j = 1 := Fin.ext (by have : j.val = 1 + _ := h1; show j.val = 1; omega)
      subst e
      rw [pay10_at _ _ _ _ n k h2 h3]
      exact second_head (read_x m c t) (read_q m c t _) (read_k m c t _) (read_p1 m c t _) n k
    · have e : j = 0 := Fin.ext (by have : j.val = _ := h1; show j.val = 0; omega)
      subst e
      rw [pay8_at _ _ n k h2 h3]
      exact first_head (read_x m c t) (read_q m c t _) (read_k m c t _) (read_p0 m c t _) n k

/-- The array of weights after the run. -/
theorem arr_weights (b : Fin 4) (h : Fin 6) (n k : Fin 1024) :
    (show FVec Ideal S4x6x1024x1024 .f32 from (dats m 0 c).arrAt 5 cfg0.N) (ix4 b h n k) =
      attn (argX m c) (argP m c) (argW m c) b h n k := by
  have e := (dats m 0 c).arrAt_eq_of_covers 5 (fun i : S4x6x1024x1024.Idx =>
    (attn (argX m c) (argP m c) (argW m c) (i 0) (i 1) (i 2) (i 3) : EReal)) (by decide +kernel) fun t hf y => by
      have hy : y = (ix4 0 (y 1) (y 2) (y 3) : S1x2x1024x1024.Idx) :=
        (eq_ix4 (y : S1x2x1024x1024.Idx)).trans (congrArg (ix4 · _ _ _) (Fin.ext (by idx_bounds; show _ = 0; omega)))
      blk_simp
      rw [after0_5]
      refine (congrArg (outsAt0 m c t.val t.isLt).1 hy).trans ((weights_block m c t _ _ _).trans ?_)
      have e0 : (win0_5.blk t).view.emb y 0 = pic t := Fin.ext (by blk_simp [idx t, pic])
      have e1 : (win0_5.blk t).view.emb y 1 = (⟨2 * (pair t).val + (y 1).val, by
          have := (pair t).isLt; have : (y 1).val < 2 := (y 1).isLt; omega⟩ : Fin 6) :=
        Fin.ext (by blk_simp [idx t]; show _ = 2 * (t.val % 3) + (y 1).val; omega)
      have e2 : (win0_5.blk t).view.emb y 2 = y 2 := Fin.ext (by blk_simp [idx t])
      have e3 : (win0_5.blk t).view.emb y 3 = y 3 := Fin.ext (by blk_simp [idx t])
      rw [e0, e1, e2, e3]
  exact congrFun e (ix4 b h n k)

/-- The array of outputs after the run. -/
theorem arr_output (b : Fin 4) (n : Fin 1024) (e : Fin 384) :
    (show FVec Ideal S4x1024x384 .f32 from (dats m 0 c).arrAt 6 cfg0.N) (ix3 b n e) =
      output (argX m c) (argP m c) (argW m c) (argO m c) (argL m c) b n e := by
  have e := (dats m 0 c).arrAt_eq_of_covers 6 (fun i : S4x1024x384.Idx =>
    (output (argX m c) (argP m c) (argW m c) (argO m c) (argL m c) (i 0) (i 1) (i 2) : EReal)) (by decide +kernel)
    fun t hf y => by
      have hy : y = (ix3 0 (y 1) (y 2) : S1x1024x384.Idx) :=
        (eq_ix3 (y : S1x1024x384.Idx)).trans (congrArg (ix3 · _ _) (Fin.ext (by idx_bounds; show _ = 0; omega)))
      blk_simp
      rw [after0_6]
      refine (congrArg (outsAt0 m c t.val t.isLt).2 hy).trans ((after_last m c t ((flush0_6 t).mp hf) _ _).trans ?_)
      have e0 : (win0_6.blk t).view.emb y 0 = pic t := Fin.ext (by blk_simp [idx t, pic])
      have e1 : (win0_6.blk t).view.emb y 1 = y 1 := Fin.ext (by blk_simp [idx t])
      have e2 : (win0_6.blk t).view.emb y 2 = y 2 := Fin.ext (by blk_simp [idx t])
      rw [e0, e1, e2]
  exact congrFun e (ix3 b n _)

end Cert.Proof

end
-- ==== Proof.Algebraic.lean ====
/- The claim of values: under the precondition the kernel's two results and the reference's are equal. -/
module

public import proofs.«01_k».proof.Defs
public import proofs.«01_k».proof.Proof.Gen.Pre_finite_no_bias
public import proofs.«01_k».proof.Proof.Gen.ReferenceIdeal.Run
public import proofs.«01_k».proof.Proof.Gen.ReferenceIdeal.Read
public import proofs.«01_k».proof.Proof.Real
public import proofs.«01_k».proof.Proof.Step
public import Idealize.ShloMosaic.Lib.Claim

@[expose] public section

set_option maxRecDepth 16384

noncomputable section

namespace Cert.Proof

open Idealize.ShloMosaic Idealize.ShloMosaic.TcCoe Idealize.SL.Sem
open Cert.KernelIdeal Cert.KernelIdeal.Gen

section Values

variable [Cert.Pre_finite_no_bias.Facts] (m : (ℓ : Loc nD τ sig) → Buf (Elt Ideal) ℓ)
  (hpre : Cert.Pre_KernelIdeal_finite_no_bias m) (c : Dev nD)

/-- The bias of queries, keys and values. -/
abbrev argBq : FVec Ideal ⟨1, ![1152]⟩ .f32 := m ((c : Thread nD τ).loc main_arg3)

/-- The bias of the output. -/
abbrev argBp : FVec Ideal ⟨1, ![384]⟩ .f32 := m ((c : Thread nD τ).loc main_arg5)

/-- The bias of the convolution. -/
abbrev argBl : FVec Ideal ⟨1, ![384]⟩ .f32 := m ((c : Thread nD τ).loc main_arg7)

include hpre in
/-- The reference's weights are the kernel's. -/
theorem value_weights (b : Fin 4) (h : Fin 6) (n k : Fin 1024) :
    Cert.ReferenceIdeal.Read.val_main_v27 (F := Ideal) (argX m c) (argP m c) (argW m c) (argBq m c) (ix4 b h n k) =
      attn (argX m c) (argP m c) (argW m c) b h n k := by
  obtain ⟨hx, hp, hw, hq, -, -⟩ := hpre c
  obtain ⟨x, ex⟩ := real_of_finite (argX m c) _ _ hx
  obtain ⟨p, ep⟩ := real_of_finite (argP m c) _ _ hp
  obtain ⟨w, ew⟩ := real_of_finite _ _ _ hw
  have hw' : ∀ (k : Fin 384) (c' : Fin 768), argW m c (ix2 k ⟨c'.val, by omega⟩) = (w (ix2 k c') : EReal) :=
    fun k c' => by
      have e := congrFun ew (ix2 k c')
      pointwise at e
      exact e
  rw [ex, ep]
  exact ref_attn x p (argW m c) (fun k c' => w (ix2 k c')) hw' (argBq m c) (fun i => zero_of_mask _ _ _ hq (ix1 i)) b h n k

include hpre in
/-- The reference's output is the kernel's. -/
theorem value_output (b : Fin 4) (n : Fin 1024) (e : Fin 384) :
    Cert.ReferenceIdeal.Read.val_main_v106 (F := Ideal) (argX m c) (argP m c) (argW m c) (argBq m c) (argO m c)
        (argBp m c) (argL m c) (argBl m c) (ix3 b n e) =
      output (argX m c) (argP m c) (argW m c) (argO m c) (argL m c) b n e := by
  have ha := value_weights m hpre c
  obtain ⟨-, -, -, hq, hp, hl⟩ := hpre c
  exact ref_output _ _ _ _ _ _ _ _ (fun i => zero_of_mask _ _ _ hq (ix1 i)) (fun i => zero_of_mask _ _ _ hp (ix1 i))
    (fun i => zero_of_mask _ _ _ hl (ix1 i)) ha b n e

end Values

/-- Under the precondition the kernel and the reference end with equal results. -/
theorem algebraic : Cert.algebraic_KernelIdeal_ReferenceIdeal_pre_finite_no_bias := by
  pair_intro
  · run_from Cert.KernelIdeal.Value.run_blocks m g
  · run_from Cert.ReferenceIdeal.Value.run (F := Ideal) m' g'
    all_goals obtain ⟨a0, a1, a2, a3, a4, a5, a6, a7⟩ := hagree c
    · rw [Cert.ReferenceIdeal.Read.val_main_v106_eq, a0, a1, a2, a3, a4, a5, a6, a7]
      funext i
      rw [eq_ix3 (i : S4x1024x384.Idx)]
      exact (value_output m hpre c _ _ _).trans (arr_output m c _ _ _).symm
    · rw [Cert.ReferenceIdeal.Read.val_main_v27_eq, a0, a1, a2, a3]
      funext i
      rw [eq_ix4 (i : S4x6x1024x1024.Idx)]
      exact (value_weights m hpre c _ _ _ _).trans (arr_weights m c _ _ _ _).symm

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_no_bias
public import proofs.«01_k».proof.Proof.Frames
public import proofs.«01_k».proof.Proof.Algebraic

@[expose] public section

noncomputable section

namespace Cert.Proof

/-- Every claim of the certificate holds. -/
theorem claim : Cert.Claim :=
  ⟨Cert.Kernel.Gen.facts, Cert.KernelIdeal.Gen.facts, Cert.ReferenceIdeal.Gen.facts, Cert.Pre_finite_no_bias.Gen.facts,
    frame_kernel, frame_ideal, fun m ρ _ => frame_ideal m ρ trivial, frame_reference,
    fun m ρ _ => frame_reference m ρ trivial, preserves, algebraic⟩

end Cert.Proof

end
